-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_valid [hPre_valid : Cert.Pre_valid.Facts] (m : (ℓ : Loc Cert.KernelIdeal.nD Cert.KernelIdeal.τ Cert.KernelIdeal.sig) → Buf (Elt Ideal) ℓ) : Prop :=
  ∀ c : Dev Cert.KernelIdeal.nD,
    (Cert.Pre_valid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_valid [hPre_valid : Cert.Pre_valid.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_valid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_valid [hKernelIdeal : Cert.KernelIdeal.Facts] [hPre_valid : Cert.Pre_valid.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_valid m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_valid [hReferenceIdeal : Cert.ReferenceIdeal.Facts] [hPre_valid : Cert.Pre_valid.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_valid m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_valid [hKernelIdeal : Cert.KernelIdeal.Facts] [hReferenceIdeal : Cert.ReferenceIdeal.Facts] [hPre_valid : Cert.Pre_valid.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_valid m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_valid : Cert.Pre_valid.Facts),
    quiescent_Kernel (hKernel := hKernel)
    ∧ quiescent_KernelIdeal (hKernelIdeal := hKernelIdeal)
    ∧ quiescent_KernelIdeal_pre_valid (hKernelIdeal := hKernelIdeal) (hPre_valid := hPre_valid)
    ∧ quiescent_ReferenceIdeal (hReferenceIdeal := hReferenceIdeal)
    ∧ quiescent_ReferenceIdeal_pre_valid (hReferenceIdeal := hReferenceIdeal) (hPre_valid := hPre_valid)
    ∧ preserves_Kernel_KernelIdeal
    ∧ algebraic_KernelIdeal_ReferenceIdeal_pre_valid (hKernelIdeal := hKernelIdeal) (hReferenceIdeal := hReferenceIdeal) (hPre_valid := hPre_valid)
-- ==== Pre_valid.lean ====
abbrev S48x1x16384 : Shape := ⟨3, ![48, 1, 16384]⟩
abbrev S3277x13312 : Shape := ⟨2, ![3277, 13312]⟩
abbrev S_ : Shape := ⟨0, ![]⟩

class Facts : Prop where
  natLt_8_32 : 8 < 32
  bcast_S_S3277x13312 : S_.BroadcastsInDim S3277x13312 (![] : Fin 0 → Fin S3277x13312.rank)
  reducesTo_S3277x13312_S_d0_1 : S3277x13312.ReducesTo [0, 1] S_
  h_S_ : 0 < S_.numel
  bcast_S_S48x1x16384 : S_.BroadcastsInDim S48x1x16384 (![] : Fin 0 → Fin S48x1x16384.rank)
  reducesTo_S48x1x16384_S_d0_1_2 : S48x1x16384.ReducesTo [0, 1, 2] S_

variable [Facts]

def fn {F : FTy → Type} [FloatOps F] (main_arg0 : FVec F S48x1x16384 .bf16) (main_arg1 : IVec S3277x13312 8) (main_arg2 : FVec F S_ .f32) : IVec S_ 1 :=
  let main_v0 : IVec S3277x13312 32 := (extui 32 · natLt_8_32) main_arg1
  let main_c : IVec S_ 32 := constantI S_ 32 243#32
  let main_v1 : IVec S3277x13312 32 := broadcastInDim S3277x13312 ![] bcast_S_S3277x13312 main_c
  let main_v2 : IVec S3277x13312 1 := cmpi .slt main_v0 main_v1
  let main_c_0 : IVec S_ 1 := constantI S_ 1 1#1
  let main_v3 : IVec S_ 1 := (fun x v => Host.reduce IntOp.andi x v reducesTo_S3277x13312_S_d0_1 h_S_) main_v2 main_c_0
  let main_v4 : FVec F S48x1x16384 .bf16 := Host.absf main_arg0
  let main_cst : FVec F S_ .bf16 := constant S_ .bf16 0x7F80#16
  let main_v5 : FVec F S48x1x16384 .bf16 := broadcastInDim S48x1x16384 ![] bcast_S_S48x1x16384 main_cst
  let main_v6 : IVec S48x1x16384 1 := cmpf .olt main_v4 main_v5
  let main_c_1 : IVec S_ 1 := constantI S_ 1 1#1
  let main_v7 : IVec S_ 1 := (fun x v => Host.reduce IntOp.andi x v reducesTo_S48x1x16384_S_d0_1_2 h_S_) main_v6 main_c_1
  let main_v8 : IVec S_ 1 := andi main_v3 main_v7
  main_v8
-- ==== Kernel.lean ====
abbrev S48x1x16384 : Shape := ⟨3, ![48, 1, 16384]⟩
abbrev S3277x13312 : Shape := ⟨2, ![3277, 13312]⟩
abbrev S_ : Shape := ⟨0, ![]⟩
abbrev S3280x13312 : Shape := ⟨2, ![3280, 13312]⟩
abbrev S48x16384 : Shape := ⟨2, ![48, 16384]⟩
abbrev S48x16640 : Shape := ⟨2, ![48, 16640]⟩
abbrev S48x13x256x5 : Shape := ⟨4, ![48, 13, 256, 5]⟩
abbrev S13x5x48x256 : Shape := ⟨4, ![13, 5, 48, 256]⟩
abbrev S13x1x48x256 : Shape := ⟨4, ![13, 1, 48, 256]⟩
abbrev S13x48x256 : Shape := ⟨3, ![13, 48, 256]⟩
abbrev S13x5x96x256 : Shape := ⟨4, ![13, 5, 96, 256]⟩
abbrev S1x1 : Shape := ⟨2, ![1, 1]⟩
abbrev S48x13312 : Shape := ⟨2, ![48, 13312]⟩
abbrev S3328x1024 : Shape := ⟨2, ![3328, 1024]⟩
abbrev S48x1024 : Shape := ⟨2, ![48, 1024]⟩
abbrev S96x1024 : Shape := ⟨2, ![96, 1024]⟩
abbrev S256x1024 : Shape := ⟨2, ![256, 1024]⟩
abbrev S1x1x96x256 : Shape := ⟨4, ![1, 1, 96, 256]⟩
abbrev S96x256 : Shape := ⟨2, ![96, 256]⟩
abbrev S48x1x13312 : Shape := ⟨3, ![48, 1, 13312]⟩

abbrev nBuf : Space → Nat
  | .hbm => 32
  | .vmem => 5
  | .smem => 1
  | _ => 0

abbrev bufTy : (tb : Table) → Fin (tcTables nBuf tb) → BufTy
  | .hbm, ⟨0, _⟩ => ⟨S48x1x16384, .bf16⟩
  | .hbm, ⟨1, _⟩ => ⟨S3277x13312, .i8⟩
  | .hbm, ⟨2, _⟩ => ⟨S_, .f32⟩
  | .hbm, ⟨3, _⟩ => ⟨S_, .i32⟩
  | .hbm, ⟨4, _⟩ => ⟨S_, .i8⟩
  | .hbm, ⟨5, _⟩ => ⟨S3280x13312, .i8⟩
  | .hbm, ⟨6, _⟩ => ⟨S48x16384, .bf16⟩
  | .hbm, ⟨7, _⟩ => ⟨S_, .i32⟩
  | .hbm, ⟨8, _⟩ => ⟨S_, .bf16⟩
  | .hbm, ⟨9, _⟩ => ⟨S48x16640, .bf16⟩
  | .hbm, ⟨10, _⟩ => ⟨S48x13x256x5, .bf16⟩
  | .hbm, ⟨11, _⟩ => ⟨S13x5x48x256, .bf16⟩
  | .hbm, ⟨12, _⟩ => ⟨S13x1x48x256, .bf16⟩
  | .hbm, ⟨13, _⟩ => ⟨S13x48x256, .bf16⟩
  | .hbm, ⟨14, _⟩ => ⟨S_, .bf16⟩
  | .hbm, ⟨15, _⟩ => ⟨S13x48x256, .bf16⟩
  | .hbm, ⟨16, _⟩ => ⟨S13x1x48x256, .bf16⟩
  | .hbm, ⟨17, _⟩ => ⟨S13x48x256, .bf16⟩
  | .hbm, ⟨18, _⟩ => ⟨S13x1x48x256, .bf16⟩
  | .hbm, ⟨19, _⟩ => ⟨S13x48x256, .bf16⟩
  | .hbm, ⟨20, _⟩ => ⟨S13x1x48x256, .bf16⟩
  | .hbm, ⟨21, _⟩ => ⟨S13x48x256, .bf16⟩
  | .hbm, ⟨22, _⟩ => ⟨S13x1x48x256, .bf16⟩
  | .hbm, ⟨23, _⟩ => ⟨S13x1x48x256, .bf16⟩
  | .hbm, ⟨24, _⟩ => ⟨S13x1x48x256, .bf16⟩
  | .hbm, ⟨25, _⟩ => ⟨S13x1x48x256, .bf16⟩
  | .hbm, ⟨26, _⟩ => ⟨S13x1x48x256, .bf16⟩
  | .hbm, ⟨27, _⟩ => ⟨S13x5x48x256, .bf16⟩
  | .hbm, ⟨28, _⟩ => ⟨S13x5x96x256, .bf16⟩
  | .hbm, ⟨29, _⟩ => ⟨S1x1, .f32⟩
  | .hbm, ⟨30, _⟩ => ⟨S48x13312, .bf16⟩
  | .hbm, ⟨31, _⟩ => ⟨S48x1x13312, .bf16⟩
  | .local _ .vmem, ⟨0, _⟩ => ⟨S13x5x96x256, .bf16⟩
  | .local _ .vmem, ⟨1, _⟩ => ⟨S3328x1024, .i8⟩
  | .local _ .vmem, ⟨2, _⟩ => ⟨S3328x1024, .i8⟩
  | .local _ .vmem, ⟨3, _⟩ => ⟨S48x1024, .bf16⟩
  | .local _ .vmem, ⟨4, _⟩ => ⟨S48x1024, .bf16⟩
  | .local _ .smem, ⟨0, _⟩ => ⟨S1x1, .f32⟩
  | _, _ => ⟨S48x1x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_call1_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg2_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![13], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S13x5x96x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S3328x1024 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .smem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S48x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S48x1x16384 : Shape := ⟨3, ![48, 1, 16384]⟩
abbrev S3277x13312 : Shape := ⟨2, ![3277, 13312]⟩
abbrev S_ : Shape := ⟨0, ![]⟩
abbrev S5 : Shape := ⟨1, ![5]⟩
abbrev S5x1x1 : Shape := ⟨3, ![5, 1, 1]⟩
abbrev S48x16384 : Shape := ⟨2, ![48, 16384]⟩
abbrev S48x16385 : Shape := ⟨2, ![48, 16385]⟩
abbrev S48x3277x5 : Shape := ⟨3, ![48, 3277, 5]⟩
abbrev S48x5x3277 : Shape := ⟨3, ![48, 5, 3277]⟩
abbrev S1x3277x13312 : Shape := ⟨3, ![1, 3277, 13312]⟩
abbrev S5x3277x13312 : Shape := ⟨3, ![5, 3277, 13312]⟩
abbrev S48x13312 : Shape := ⟨2, ![48, 13312]⟩
abbrev S48x1x13312 : Shape := ⟨3, ![48, 1, 13312]⟩

abbrev nBuf : Space → Nat
  | .hbm => 41
  | .vmem => 0
  | .smem => 0
  | _ => 0

abbrev bufTy : (tb : Table) → Fin (tcTables nBuf tb) → BufTy
  | .hbm, ⟨0, _⟩ => ⟨S48x1x16384, .bf16⟩
  | .hbm, ⟨1, _⟩ => ⟨S3277x13312, .i8⟩
  | .hbm, ⟨2, _⟩ => ⟨S_, .f32⟩
  | .hbm, ⟨3, _⟩ => ⟨S5, .f32⟩
  | .hbm, ⟨4, _⟩ => ⟨S5x1x1, .f32⟩
  | .hbm, ⟨5, _⟩ => ⟨S48x16384, .bf16⟩
  | .hbm, ⟨6, _⟩ => ⟨S_, .i32⟩
  | .hbm, ⟨7, _⟩ => ⟨S_, .bf16⟩
  | .hbm, ⟨8, _⟩ => ⟨S48x16385, .bf16⟩
  | .hbm, ⟨9, _⟩ => ⟨S48x3277x5, .bf16⟩
  | .hbm, ⟨10, _⟩ => ⟨S48x5x3277, .bf16⟩
  | .hbm, ⟨11, _⟩ => ⟨S3277x13312, .i32⟩
  | .hbm, ⟨12, _⟩ => ⟨S3277x13312, .f32⟩
  | .hbm, ⟨13, _⟩ => ⟨S1x3277x13312, .f32⟩
  | .hbm, ⟨14, _⟩ => ⟨S_, .f32⟩
  | .hbm, ⟨15, _⟩ => ⟨S1x3277x13312, .f32⟩
  | .hbm, ⟨16, _⟩ => ⟨S1x3277x13312, .f32⟩
  | .hbm, ⟨17, _⟩ => ⟨S5x3277x13312, .f32⟩
  | .hbm, ⟨18, _⟩ => ⟨S5x3277x13312, .f32⟩
  | .hbm, ⟨19, _⟩ => ⟨S5x3277x13312, .f32⟩
  | .hbm, ⟨20, _⟩ => ⟨S5x3277x13312, .f32⟩
  | .hbm, ⟨21, _⟩ => ⟨S_, .f32⟩
  | .hbm, ⟨22, _⟩ => ⟨S5x3277x13312, .f32⟩
  | .hbm, ⟨23, _⟩ => ⟨S5x3277x13312, .f32⟩
  | .hbm, ⟨24, _⟩ => ⟨S_, .f32⟩
  | .hbm, ⟨25, _⟩ => ⟨S5x3277x13312, .f32⟩
  | .hbm, ⟨26, _⟩ => ⟨S5x3277x13312, .f32⟩
  | .hbm, ⟨27, _⟩ => ⟨S5x3277x13312, .f32⟩
  | .hbm, ⟨28, _⟩ => ⟨S_, .f32⟩
  | .hbm, ⟨29, _⟩ => ⟨S5x3277x13312, .f32⟩
  | .hbm, ⟨30, _⟩ => ⟨S5x3277x13312, .f32⟩
  | .hbm, ⟨31, _⟩ => ⟨S5x3277x13312, .f32⟩
  | .hbm, ⟨32, _⟩ => ⟨S_, .f32⟩
  | .hbm, ⟨33, _⟩ => ⟨S5x3277x13312, .f32⟩
  | .hbm, ⟨34, _⟩ => ⟨S5x3277x13312, .f32⟩
  | .hbm, ⟨35, _⟩ => ⟨S5x3277x13312, .bf16⟩
  | .hbm, ⟨36, _⟩ => ⟨S48x13312, .f32⟩
  | .hbm, ⟨37, _⟩ => ⟨S48x13312, .f32⟩
  | .hbm, ⟨38, _⟩ => ⟨S48x13312, .f32⟩
  | .hbm, ⟨39, _⟩ => ⟨S48x13312, .bf16⟩
  | .hbm, ⟨40, _⟩ => ⟨S48x1x13312, .bf16⟩
  | _, _ => ⟨S48x1x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== Proof.Pre.lean ====
/-
  WHAT THE PRECONDITION SAYS: every byte is below 243, and every activation is a real number.
-/
module

public import proofs.«01_k».proof.Pre_valid
public import proofs.«01_k».proof.Proof.Gen.Pre_valid
public import Idealize.ShloMosaic.Lib.ReduceAll
public import Idealize.ShloMosaic.Lib.ValueIdx
public import Idealize.ShloMosaic.PureOps.Ideal.Laws

@[expose] public section

noncomputable section

namespace Cert.PreValue

open Idealize.ShloMosaic Idealize.ShloMosaic.TcCoe Idealize.ShloMosaic.ValueIdx
open Cert.Pre_valid Cert.Pre_valid.Gen Cert.Pre_valid.Facts

theorem andi_one {a b : BitVec 1} (h : IntOp.andi a b = 1#1) : a = 1#1 ∧ b = 1#1 := by
  revert a b; decide

theorem subsingleton_S_ : Subsingleton S_.Idx := ⟨fun a b => (eq_ix0 a).trans (eq_ix0 b).symm⟩

theorem byte_lt (b : BitVec 8) (h : IntOp.cmpi .slt (BitVec.setWidth 32 b) 243#32 = 1#1) : b.toNat < 243 := by
  revert b; decide

theorem real_of_lt (x : EReal) (h : max x (-x) < ⊤) : x = (EReal.toReal x : EReal) := by
  refine (EReal.coe_toReal ?_ ?_).symm
  · rintro rfl; simp at h
  · rintro rfl; simp at h

theorem top_eq : Ideal.ofBits .bf16 0x7F80#16 = (⊤ : EReal) := by simp [Ideal.ofBits, Ideal.ieee]

variable (a0 : FVec Ideal S48x1x16384 .bf16) (a1 : IVec S3277x13312 8) (a2 : FVec Ideal S_ .f32)

theorem split (h : fn (F := Ideal) a0 a1 a2 = fun _ => 1#1) : (∀ i, a0 i = (EReal.toReal (a0 i) : EReal)) ∧ ∀ i, (a1 i).toNat < 243 := by
  have := subsingleton_S_
  have h' := andi_one (congrFun h ix0)
  constructor
  · intro i
    have e := Host.reduce_andi_all _ _ _ _ ix0 h'.2 i
    refine real_of_lt _ ?_
    have e' : Ideal.cmp .olt (max (a0 i) (-(a0 i))) (Ideal.ofBits .bf16 0x7F80#16) = 1#1 := e
    rw [top_eq] at e'
    by_contra hn
    simp [Ideal.cmp, hn] at e'
  · intro i
    exact byte_lt _ (Host.reduce_andi_all _ _ _ _ ix0 h'.1 i)

end Cert.PreValue
-- ==== Proof.KernelIdealBody.lean ====
/-
  THE KERNEL'S BODY, RUN: on any staging buffers, whatever the three operands' hold, the body runs to its end, leaves the
  operands' buffers as they were, and writes the whole of the result's; what it writes there is found by the run.
-/
module

public import proofs.«01_k».proof.Proof.Gen.KernelIdeal.Frame
public import proofs.«01_k».proof.Proof.Gen.KernelIdeal.Skeleton
public import Idealize.ShloMosaic.Lib.Claim

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]

local notation "𝕄" => MT nD τ sig Unit (Elt F) ℕ (UR sig nD τ) ℕ

/-! ## The staging buffers -/

/-- One staging buffer of the result, through which its contents are stated. -/
abbrev VO0_3 : View sig .tc .vmem S48x1024 .bf16 := (Memref.whole cc0_stg3_0 : Memref sig .tc .vmem S48x1024 .bf16).view

/-- Each window's current staging memref at point `t`, spelled as the pipeline passes it (`bodyAt0`), and its wholeness. -/
abbrev ms0_0 (t : Fin cfg0.N) : Memref sig .tc .vmem S13x5x96x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S3328x1024 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .smem S1x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S48x1024 .bf16 := win0_3.stage (cfg0.slots t 3)
abbrev hs0_3 (t : Fin cfg0.N) : (ms0_3 t).IsWhole := hstage0_3 ((cfg0.slots t 3).cast nbuf0_3)

/-! ## The run -/

set_option maxHeartbeats 1000000 in
/-- The pieces the body's stores leave in the result's staging buffer, with the proof that the body runs from the operands'
    buffers at their contents and the result's at anything to the operands' as they were and the result's with these pieces
    written. -/
noncomputable def kernelRun0_A (c : Dev nD) (i : grid0.Coords) (arg1 : Memref sig .tc .vmem S13x5x96x256 .bf16) (harg1 : arg1.IsWhole) (arg2 : Memref sig .tc .vmem S3328x1024 .i8) (harg2 : arg2.IsWhole) (arg3 : Memref sig .tc .smem S1x1 .f32) (harg3 : arg3.IsWhole) (arg4 : Memref sig .tc .vmem S48x1024 .bf16) (harg4 : arg4.IsWhole)
    (x0 : Vec F S13x5x96x256 .bf16) (x1 : Vec F S3328x1024 .i8) (x2 : Vec F S1x1 .f32) :
    { L3 : List (View.Piece (Elt F) S48x1024 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3)) -∗ K ⟨⟩))
          ⊢ wp frame (wpE (defs₀ (F := F)) Variants.none c none) E (cc0_ternary_linear i arg1 harg1 arg2 harg2 arg3 harg3 arg4 harg4) K } := by
  refine ⟨?_, fun E K => ?run⟩
  case run =>
    simp only [cc0_ternary_linear_eq_skeleton]; unfold cc0_ternary_linear_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
    unfold owns
    iintro ⟨⟨%f0, %hf0, H0⟩, ⟨%f1, %hf1, H1⟩, ⟨%f2, %hf2, H2⟩, ⟨%d3, %f3, -, H3⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

/-- The pieces cover the result's block: one store of the whole. -/
theorem cover0_A_3 (c : Dev nD) (i : grid0.Coords) (arg1 : Memref sig .tc .vmem S13x5x96x256 .bf16) (harg1 : arg1.IsWhole) (arg2 : Memref sig .tc .vmem S3328x1024 .i8) (harg2 : arg2.IsWhole) (arg3 : Memref sig .tc .smem S1x1 .f32) (harg3 : arg3.IsWhole) (arg4 : Memref sig .tc .vmem S48x1024 .bf16) (harg4 : arg4.IsWhole)
    (x0 : Vec F S13x5x96x256 .bf16) (x1 : Vec F S3328x1024 .i8) (x2 : Vec F S1x1 .f32) (y : S48x1024.Idx) :
    ∃ pc ∈ (kernelRun0_A c i arg1 harg1 arg2 harg2 arg3 harg3 arg4 harg4 x0 x1 x2).1, y ∈ pc.1.set :=
  View.cover_of_tiledL (kernelRun0_A c i arg1 harg1 arg2 harg2 arg3 harg3 arg4 harg4 x0 x1 x2).1 S48x1024.size (by sl_kernel_rfl) y

/-- What the body leaves in the result's staging buffer, of the three operands' contents. -/
def out0_A_3 (c : Dev nD) (i : grid0.Coords) (arg1 : Memref sig .tc .vmem S13x5x96x256 .bf16) (harg1 : arg1.IsWhole) (arg2 : Memref sig .tc .vmem S3328x1024 .i8) (harg2 : arg2.IsWhole) (arg3 : Memref sig .tc .smem S1x1 .f32) (harg3 : arg3.IsWhole) (arg4 : Memref sig .tc .vmem S48x1024 .bf16) (harg4 : arg4.IsWhole)
    (x0 : Vec F S13x5x96x256 .bf16) (x1 : Vec F S3328x1024 .i8) (x2 : Vec F S1x1 .f32) : Vec F S48x1024 .bf16 :=
  VO0_3.read (Elt F) (VO0_3.writes (Elt F) VO0_3.junk (kernelRun0_A c i arg1 harg1 arg2 harg2 arg3 harg3 arg4 harg4 x0 x1 x2).1)

end Cert.KernelIdeal.Body

end
-- ==== Proof.Block.lean ====
/-
  WHAT ONE GRID POINT LEAVES in the result's staging block, as one closed term of the three blocks it reads.

  The body walks thirteen tiles of 256 packed rows. Per tile it decodes the bytes into five weights (`klo`, `klo1`,
  `klo2`, `khi`, `khi1`, each a 256 × 1024 array) and adds five 96 × 256 by 256 × 1024 products to one accumulator
  (`tile`). `acc n` is the accumulator after `n` tiles; the block is the upper 48 rows less three times the lower 48
  rows, times the scale (`fin`). `out_eq` says that the run's stored block is exactly that, for any float values.
-/
module

public import proofs.«01_k».proof.Proof.KernelIdealBody
public import Idealize.ShloMosaic.Lib.Pipeline.Value
public import Idealize.ShloMosaic.Lib.ValueIdxCore

@[expose] public section

noncomputable section

namespace Cert.KernelIdeal.Value

open Idealize.ShloMosaic Idealize.ShloMosaic.TcCoe Idealize.ShloMosaic.Tactic
open Cert.KernelIdeal Cert.KernelIdeal.Gen Cert.KernelIdeal.Body

variable {F : FTy → Type} [FloatOps F]

theorem hz : (![0, 0] : Fin 2 → Nat) = fun _ => 0 := funext fun a => by fin_cases a <;> rfl

/-! ## The five weights of a tile of bytes -/

/-- The byte less 121. -/
def kc (v : Vec F S256x1024 .i8) : FVec F S256x1024 .bf16 :=
  subf (uitofp .bf16 (shapeCast S256x1024 v shapeCasts_S256x1024_S256x1024 : IVec S256x1024 8)) (broadcast S256x1024 (Scalar.ofBits .bf16 0x42F2#16))
/-- The upper half: the nearest integer to about a twenty-seventh of it. -/
def khi (v : Vec F S256x1024 .i8) : FVec F S256x1024 .bf16 :=
  roundeven (mulf (kc v) (broadcast S256x1024 (Scalar.ofBits .bf16 0x3D18#16)))
/-- A third of a weight, rounded to the nearest integer. -/
def third (a : FVec F S256x1024 .bf16) : FVec F S256x1024 .bf16 :=
  roundeven (mulf a (broadcast S256x1024 (Scalar.ofBits .bf16 0x3EAB#16)))
/-- The lower half. -/
def klo (v : Vec F S256x1024 .i8) : FVec F S256x1024 .bf16 :=
  subf (kc v) (mulf (khi v) (broadcast S256x1024 (Scalar.ofBits .bf16 0x41D8#16)))
def klo1 (v : Vec F S256x1024 .i8) : FVec F S256x1024 .bf16 := third (klo v)
def klo2 (v : Vec F S256x1024 .i8) : FVec F S256x1024 .bf16 := third (klo1 v)
def khi1 (v : Vec F S256x1024 .i8) : FVec F S256x1024 .bf16 := third (khi v)

/-! ## The accumulator -/

/-- One product added to the accumulator. -/
def step (a : FVec F S96x1024 .f32) (x : Vec F S1x1x96x256 .bf16) (w : FVec F S256x1024 .bf16) : FVec F S96x1024 .f32 :=
  addf a (matmul dot_S96x256_S256x1024_S96x1024_1_0_0_1_n_n none (shapeCast S96x256 x shapeCasts_S1x1x96x256_S96x256 : FVec F S96x256 .bf16) w (constant S96x1024 .f32 0x00000000#32))

/-- Tile `t`'s bytes: rows `256 t …` of the block. -/
def wT (x1 : Vec F S3328x1024 .i8) (t : Fin 13) : Vec F S256x1024 .i8 :=
  View.ld x1 (Rect.unit (s := S3328x1024) ![256 * t.val, 0] S256x1024.size (by
    have := t.isLt; intro a; fin_cases a
    · show 256 * t.val + 256 ≤ 3328; omega
    · show 0 + 1024 ≤ 1024; omega))

/-- The left operand of tile `t`'s product `j`. -/
def xT (x0 : Vec F S13x5x96x256 .bf16) (t : Fin 13) (j : Fin 5) : Vec F S1x1x96x256 .bf16 :=
  View.ld x0 (Rect.unit (s := S13x5x96x256) ![t.val, j.val, 0, 0] S1x1x96x256.size (by
    have := t.isLt; have := j.isLt; intro a; fin_cases a
    · show t.val + 1 ≤ 13; omega
    · show j.val + 1 ≤ 5; omega
    · show 0 + 96 ≤ 96; omega
    · show 0 + 256 ≤ 256; omega))

/-- One tile: five products. -/
def tile (a : FVec F S96x1024 .f32) (v : Vec F S256x1024 .i8) (x : Fin 5 → Vec F S1x1x96x256 .bf16) : FVec F S96x1024 .f32 :=
  step (step (step (step (step a (x 0) (klo v)) (x 1) (klo1 v)) (x 2) (klo2 v)) (x 3) (khi v)) (x 4) (khi1 v)

/-- The accumulator after `n` tiles. -/
def acc (x0 : Vec F S13x5x96x256 .bf16) (x1 : Vec F S3328x1024 .i8) : (n : ℕ) → n ≤ 13 → FVec F S96x1024 .f32
  | 0, _ => broadcast S96x1024 (Scalar.ofBits .f32 0x00000000#32)
  | n + 1, h => tile (acc x0 x1 n (Nat.le_of_succ_le h)) (wT x1 ⟨n, h⟩) (xT x0 ⟨n, h⟩)

/-- The block from the accumulator and the scale. -/
def fin (a : FVec F S96x1024 .f32) (s : Elt F .f32) : FVec F S48x1024 .bf16 :=
  truncf .bf16 (mulf (subf (extractStridedSlice S48x1024 ![0, 0] a slices_S96x1024_o0_0_S48x1024)
    (mulf (broadcast S48x1024 (Scalar.ofBits .f32 0x40400000#32)) (extractStridedSlice S48x1024 ![48, 0] a slices_S96x1024_o48_0_S48x1024)))
    (broadcast S48x1024 s)) bitsLt_bf16_f32

theorem numel_S1x1 : 0 < Shape.numel ⟨S1x1.rank, S1x1.size⟩ := by decide

set_option maxRecDepth 65536 in
/-- The stored block is `fin` of the accumulator after the thirteen tiles and the scale. -/
theorem out_eq (c : Dev nD) (i : grid0.Coords) (arg1 : Memref sig .tc .vmem S13x5x96x256 .bf16) (harg1 : arg1.IsWhole) (arg2 : Memref sig .tc .vmem S3328x1024 .i8) (harg2 : arg2.IsWhole) (arg3 : Memref sig .tc .smem S1x1 .f32) (harg3 : arg3.IsWhole) (arg4 : Memref sig .tc .vmem S48x1024 .bf16) (harg4 : arg4.IsWhole)
    (x0 : Vec F S13x5x96x256 .bf16) (x1 : Vec F S3328x1024 .i8) (x2 : Vec F S1x1 .f32) :
    out0_A_3 c i arg1 harg1 arg2 harg2 arg3 harg3 arg4 harg4 x0 x1 x2
      = fin (acc x0 x1 13 le_rfl) (x2 (ValueIdx.ix2 (0 : Fin 1) (0 : Fin 1))) := by
  unfold out0_A_3
  rw [View.read_writes_eq_canon _ _ _ (cover0_A_3 c i arg1 harg1 arg2 harg2 arg3 harg3 arg4 harg4 x0 x1 x2)]
  unfold kernelRun0_A
  dsimp only
  sl_unfold_words
  rw [View.canon_unit_zero hz]
  simp only [View.readAt_eq_ld, harg1.read_unread, harg2.read_unread, harg3.read_unread]
  refine Eq.trans (?_ : _ = fin (acc x0 x1 13 le_rfl) (View.ld x2 (Rect.unit (s := S1x1) ![0, 0] S1x1.size inb_S1x1_S1x1_0_0) (Shape.Idx.first numel_S1x1))) (congrArg _ (congrArg x2 ?_))
  · rfl
  · funext a; fin_cases a <;> exact Subsingleton.elim (α := Fin 1) _ _

end Cert.KernelIdeal.Value

end
-- ==== Proof.Digits.lean ====
/-
  BASE-THREE DIGITS OF A BYTE by rounding and by flooring, over the reals.

  A byte `b` below 243 carries five base-three digits. The reference takes digit `j` as `⌊(b + ½) · c_j⌋` modulo 3, with
  `c_j` the nearest single-precision number to `3⁻ʲ`. The kernel takes five coarser numbers, `weight b 0 … weight b 4`,
  by rounding to the nearest integer: the balanced remainder and quotient of `b - 121` by 27, and the quotients of those
  by 3 and by 9. Each rounding and each flooring is far enough from a tie or an integer for the constants' errors not
  to matter, so all of them are exact; and `digit b j` is `weight b j`, or that less three times the next weight.
-/
module

public import Idealize.ShloMosaic.PureOps.Ideal
public import Mathlib.Tactic.Linarith
public import Mathlib.Tactic.IntervalCases

@[expose] public section

noncomputable section

namespace Cert.Digits

open Idealize.ShloMosaic

/-- The kernel's five numbers of a byte. -/
def weight (b : ℕ) : Fin 5 → ℤ
  | 0 => (b % 27 : ℕ) - 13
  | 1 => (b % 27 / 3 : ℕ) - 4
  | 2 => (b % 27 / 9 : ℕ) - 1
  | 3 => (b / 27 : ℕ) - 4
  | 4 => (b / 81 : ℕ) - 1

/-- Digit `j` of a byte, less one. -/
def digit (b : ℕ) (j : Fin 5) : ℤ := (b / 3 ^ j.val % 3 : ℕ) - 1

theorem digit_0 (b : ℕ) : digit b 0 = weight b 0 - 3 * weight b 1 := by
  simp only [digit, weight, Fin.val_zero, pow_zero]; omega
theorem digit_1 (b : ℕ) : digit b 1 = weight b 1 - 3 * weight b 2 := by
  simp only [digit, weight, Fin.val_one, pow_one]; omega
theorem digit_2 (b : ℕ) : digit b 2 = weight b 2 := by
  simp only [digit, weight, show ((2 : Fin 5) : ℕ) = 2 from rfl, show 3 ^ 2 = 9 from rfl]; omega
theorem digit_3 (b : ℕ) : digit b 3 = weight b 3 - 3 * weight b 4 := by
  simp only [digit, weight, show ((3 : Fin 5) : ℕ) = 3 from rfl, show 3 ^ 3 = 27 from rfl]; omega
/-- Here, and only here, the byte must be one that five digits give. -/
theorem digit_4 (b : ℕ) (h : b < 243) : digit b 4 = weight b 4 := by
  simp only [digit, weight, show ((4 : Fin 5) : ℕ) = 4 from rfl, show 3 ^ 4 = 81 from rfl]; omega

/-! ## Rounding and flooring away from the ties -/

theorem roundHalfEven_eq {r : ℝ} {n : ℤ} (h₁ : (n : ℝ) - 1 / 2 < r) (h₂ : r < n + 1 / 2) :
    Ideal.roundHalfEven r = n := by
  unfold Ideal.roundHalfEven
  by_cases h : (n : ℝ) ≤ r
  · have hf : ⌊r⌋ = n := Int.floor_eq_iff.mpr ⟨h, by linarith⟩
    simp only [hf]
    rw [if_pos (by linarith)]
  · have hf : ⌊r⌋ = n - 1 := Int.floor_eq_iff.mpr ⟨by push_cast; linarith, by push_cast; linarith⟩
    simp only [hf]
    rw [if_neg (by push_cast; linarith), if_pos (by push_cast; linarith)]
    ring

/-! ## The constants -/

theorem bf16_121 : Ideal.ofBits .bf16 0x42F2#16 = ((121 : ℝ) : EReal) := by
  simp [Ideal.ofBits, Ideal.ieee, -EReal.coe_mul]; norm_num
theorem bf16_27th : Ideal.ofBits .bf16 0x3D18#16 = ((19 / 512 : ℝ) : EReal) := by
  simp [Ideal.ofBits, Ideal.ieee, -EReal.coe_mul]; norm_num
theorem bf16_27 : Ideal.ofBits .bf16 0x41D8#16 = ((27 : ℝ) : EReal) := by
  simp [Ideal.ofBits, Ideal.ieee, -EReal.coe_mul]; norm_num
theorem bf16_third : Ideal.ofBits .bf16 0x3EAB#16 = ((171 / 512 : ℝ) : EReal) := by
  simp [Ideal.ofBits, Ideal.ieee, -EReal.coe_mul]; norm_num
theorem bf16_zero : Ideal.ofBits .bf16 0x0000#16 = 0 := by simp [Ideal.ofBits, Ideal.ieee]
theorem f32_three : Ideal.ofBits .f32 0x40400000#32 = ((3 : ℝ) : EReal) := by
  simp [Ideal.ofBits, Ideal.ieee, -EReal.coe_mul]; norm_num
theorem f32_half : Ideal.ofBits .f32 0x3F000000#32 = ((1 / 2 : ℝ) : EReal) := by
  simp [Ideal.ofBits, Ideal.ieee, -EReal.coe_mul]; norm_num
theorem f32_one : Ideal.ofBits .f32 0x3F800000#32 = ((1 : ℝ) : EReal) := by
  simp [Ideal.ofBits, Ideal.ieee, -EReal.coe_mul]; norm_num
theorem f32_third : Ideal.ofBits .f32 0x3EAAAAAB#32 = ((11184811 / 33554432 : ℝ) : EReal) := by
  simp [Ideal.ofBits, Ideal.ieee, -EReal.coe_mul]; norm_num

/-! ## The kernel's numbers -/

section Kernel
variable (b : ℕ) (hb : b < 256)
include hb

/-- A byte by its quotient and remainder by 27, in the reals. -/
theorem split27 : (b : ℝ) = 27 * ((b / 27 : ℕ) : ℝ) + ((b % 27 : ℕ) : ℝ) := by
  exact_mod_cast (Nat.div_add_mod b 27).symm

theorem round_hi : Ideal.liftRound Ideal.roundHalfEven ((((b : ℝ) : EReal) - ((121 : ℝ) : EReal)) * ((19 / 512 : ℝ) : EReal))
    = ((weight b 3 : ℝ) : EReal) := by
  rw [← EReal.coe_sub, ← EReal.coe_mul, Ideal.liftRound_coe]
  have hs := split27 b hb
  have hq : ((b / 27 : ℕ) : ℝ) ≤ 9 := by exact_mod_cast (by omega : b / 27 ≤ 9)
  have hq0 : (0 : ℝ) ≤ ((b / 27 : ℕ) : ℝ) := Nat.cast_nonneg _
  have hr : ((b % 27 : ℕ) : ℝ) ≤ 26 := by exact_mod_cast (by omega : b % 27 ≤ 26)
  have hr0 : (0 : ℝ) ≤ ((b % 27 : ℕ) : ℝ) := Nat.cast_nonneg _
  rw [roundHalfEven_eq (n := weight b 3)]
  · simp only [weight, Int.cast_sub, Int.cast_natCast, Int.cast_ofNat]; linarith
  · simp only [weight, Int.cast_sub, Int.cast_natCast, Int.cast_ofNat]; linarith

theorem sub_lo : (((b : ℝ) : EReal) - ((121 : ℝ) : EReal)) - ((weight b 3 : ℝ) : EReal) * ((27 : ℝ) : EReal)
    = ((weight b 0 : ℝ) : EReal) := by
  rw [← EReal.coe_sub, ← EReal.coe_mul, ← EReal.coe_sub]
  congr 1
  have hs := split27 b hb
  simp only [weight, Int.cast_sub, Int.cast_natCast, Int.cast_ofNat]; linarith

omit hb in
/-- A third of an integer between -13 and 13, rounded. -/
theorem round_third (k n : ℤ) (h₁ : 3 * n - 1 ≤ k) (h₂ : k ≤ 3 * n + 1) (h₃ : -13 ≤ k) (h₄ : k ≤ 13) :
    Ideal.liftRound Ideal.roundHalfEven (((k : ℝ) : EReal) * ((171 / 512 : ℝ) : EReal)) = ((n : ℝ) : EReal) := by
  rw [← EReal.coe_mul, Ideal.liftRound_coe]
  have h₁' : 3 * (n : ℝ) - 1 ≤ k := by exact_mod_cast h₁
  have h₂' : (k : ℝ) ≤ 3 * n + 1 := by exact_mod_cast h₂
  have h₃' : (-13 : ℝ) ≤ k := by exact_mod_cast h₃
  have h₄' : (k : ℝ) ≤ 13 := by exact_mod_cast h₄
  rw [roundHalfEven_eq (n := n)] <;> linarith

theorem round_lo1 : Ideal.liftRound Ideal.roundHalfEven (((weight b 0 : ℝ) : EReal) * ((171 / 512 : ℝ) : EReal)) = ((weight b 1 : ℝ) : EReal) :=
  round_third _ _ (by simp only [weight]; omega) (by simp only [weight]; omega) (by simp only [weight]; omega) (by simp only [weight]; omega)
theorem round_lo2 : Ideal.liftRound Ideal.roundHalfEven (((weight b 1 : ℝ) : EReal) * ((171 / 512 : ℝ) : EReal)) = ((weight b 2 : ℝ) : EReal) :=
  round_third _ _ (by simp only [weight]; omega) (by simp only [weight]; omega) (by simp only [weight]; omega) (by simp only [weight]; omega)
theorem round_hi1 : Ideal.liftRound Ideal.roundHalfEven (((weight b 3 : ℝ) : EReal) * ((171 / 512 : ℝ) : EReal)) = ((weight b 4 : ℝ) : EReal) :=
  round_third _ _ (by simp only [weight]; omega) (by simp only [weight]; omega) (by simp only [weight]; omega) (by simp only [weight]; omega)

end Kernel

/-! ## The reference's digits -/

/-- The reference's five scale words, `3⁻ʲ` to the nearest. -/
def invWord : Fin 5 → BitVec 32 := ![0x3F800000#32, 0x3EAAAAAB#32, 0x3DE38E39#32, 0x3D17B426#32, 0x3C4A4588#32]
def inv : Fin 5 → ℝ := ![1, 11184811 / 33554432, 14913081 / 134217728, 9942054 / 268435456, 13256072 / 1073741824]

theorem inv_eq (j : Fin 5) : Ideal.ofBits .f32 (invWord j) = ((inv j : ℝ) : EReal) := by
  fin_cases j <;> simp [invWord, inv, Ideal.ofBits, Ideal.ieee, -EReal.coe_mul] <;> norm_num

/-- A byte and a half, times about `1 / d`, has the quotient by `d` as its floor. -/
theorem floor_scaled (b d : ℕ) (c : ℝ) (hd : 0 < d) (h₁ : c * d ≤ 1 + 1 / 10000) (h₂ : 1 - 1 / 10000 ≤ c * d) (hb : b < 256) :
    ⌊((b : ℝ) + 1 / 2) * c⌋ = ((b / d : ℕ) : ℤ) := by
  have hd' : (0 : ℝ) < d := by exact_mod_cast hd
  have hs : (b : ℝ) = d * ((b / d : ℕ) : ℝ) + ((b % d : ℕ) : ℝ) := by exact_mod_cast (Nat.div_add_mod b d).symm
  have hr : ((b % d : ℕ) : ℝ) + 1 ≤ d := by exact_mod_cast Nat.mod_lt b hd
  have hr0 : (0 : ℝ) ≤ ((b % d : ℕ) : ℝ) := Nat.cast_nonneg _
  have hb' : (b : ℝ) < 256 := by exact_mod_cast hb
  have hb0 : (0 : ℝ) ≤ b := Nat.cast_nonneg _
  rw [Int.floor_eq_iff]
  rw [Int.cast_natCast]
  have m₁ := mul_le_mul_of_nonneg_left h₁ (by linarith : (0 : ℝ) ≤ (b : ℝ) + 1 / 2)
  have m₂ := mul_le_mul_of_nonneg_left h₂ (by linarith : (0 : ℝ) ≤ (b : ℝ) + 1 / 2)
  constructor
  · refine le_of_mul_le_mul_right ?_ hd'
    rw [mul_assoc, mul_comm ((b / d : ℕ) : ℝ)]
    linarith
  · refine lt_of_mul_lt_mul_right ?_ hd'.le
    rw [mul_assoc, add_one_mul, mul_comm ((b / d : ℕ) : ℝ)]
    linarith

theorem floor_q (b : ℕ) (hb : b < 256) (j : Fin 5) :
    Ideal.liftRound Int.floor ((((b : ℝ) : EReal) + ((1 / 2 : ℝ) : EReal)) * ((inv j : ℝ) : EReal)) = (((b / 3 ^ j.val : ℕ) : ℝ) : EReal) := by
  rw [← EReal.coe_add, ← EReal.coe_mul, Ideal.liftRound_coe,
    floor_scaled b (3 ^ j.val) (inv j) (by positivity) (by fin_cases j <;> simp [inv] <;> norm_num) (by fin_cases j <;> simp [inv] <;> norm_num) hb]
  norm_cast

theorem ref_digit (b : ℕ) (hb : b < 256) (j : Fin 5) :
    ((((b / 3 ^ j.val : ℕ) : ℝ) : EReal) - ((3 : ℝ) : EReal) * Ideal.liftRound Int.floor (((((b / 3 ^ j.val : ℕ) : ℝ) : EReal) + ((1 / 2 : ℝ) : EReal)) * ((11184811 / 33554432 : ℝ) : EReal)))
      - ((1 : ℝ) : EReal) = ((digit b j : ℝ) : EReal) := by
  have hq : b / 3 ^ j.val < 256 := lt_of_le_of_lt (Nat.div_le_self _ _) hb
  rw [← EReal.coe_add, ← EReal.coe_mul, Ideal.liftRound_coe, floor_scaled (b / 3 ^ j.val) 3 _ (by norm_num) (by norm_num) (by norm_num) hq,
    ← EReal.coe_mul, ← EReal.coe_sub, ← EReal.coe_sub]
  congr 1
  have hs : ((b / 3 ^ j.val : ℕ) : ℝ) = 3 * ((b / 3 ^ j.val / 3 : ℕ) : ℝ) + ((b / 3 ^ j.val % 3 : ℕ) : ℝ) := by
    exact_mod_cast (Nat.div_add_mod (b / 3 ^ j.val) 3).symm
  simp only [digit, Int.cast_sub, Int.cast_natCast, Int.cast_one]
  linarith

end Cert.Digits

end
-- ==== Proof.BlockValue.lean ====
/-
  THE BLOCK AT AN INDEX, over the extended reals: when every entry of the left operands is a real number, entry `(m, n)`
  of a grid point's block is a sum of products over the 13 tiles, the 256 rows of a tile and the five weights (upper row
  less three times lower row), times the scale.
-/
module

public import proofs.«01_k».proof.Proof.Block
public import proofs.«01_k».proof.Proof.Digits
public import Idealize.ShloMosaic.Lib.ValueIdx
public import Idealize.ShloMosaic.PureOps.Ideal.Laws

@[expose] public section

noncomputable section

open scoped BigOperators

namespace Cert.KernelIdeal.Value

open Idealize.ShloMosaic Idealize.ShloMosaic.TcCoe Idealize.ShloMosaic.Tactic Idealize.ShloMosaic.ValueIdx
open Cert.KernelIdeal Cert.KernelIdeal.Gen Cert.Digits

/-! ## The five weights at an index -/

section Weights
variable (v : Vec Ideal S256x1024 .i8) (i : S256x1024.Idx)

theorem kc_apply : kc v i = ((((v i).toNat : ℕ) : ℝ) : EReal) - ((121 : ℝ) : EReal) := by
  have e : (shapeCast S256x1024 v shapeCasts_S256x1024_S256x1024 : IVec S256x1024 8) = v := shapeCast_self _ _
  unfold kc
  rw [e, ← bf16_121]
  rfl
theorem khi_apply : khi v i = ((weight (v i).toNat 3 : ℝ) : EReal) := by
  rw [← round_hi _ (BitVec.isLt (w := 8) (v i)), ← kc_apply v i, ← bf16_27th]
  rfl
theorem klo_apply : klo v i = ((weight (v i).toNat 0 : ℝ) : EReal) := by
  rw [← sub_lo _ (BitVec.isLt (w := 8) (v i)), ← kc_apply v i, ← khi_apply v i, ← bf16_27]
  rfl
theorem klo1_apply : klo1 v i = ((weight (v i).toNat 1 : ℝ) : EReal) := by
  rw [← round_lo1 _ (BitVec.isLt (w := 8) (v i)), ← klo_apply v i, ← bf16_third]
  rfl
theorem klo2_apply : klo2 v i = ((weight (v i).toNat 2 : ℝ) : EReal) := by
  rw [← round_lo2 _ (BitVec.isLt (w := 8) (v i)), ← klo1_apply v i, ← bf16_third]
  rfl
theorem khi1_apply : khi1 v i = ((weight (v i).toNat 4 : ℝ) : EReal) := by
  rw [← round_hi1 _ (BitVec.isLt (w := 8) (v i)), ← khi_apply v i, ← bf16_third]
  rfl

end Weights

/-! ## One product -/

/-- The dimension numbers of a product. -/
abbrev D := dot_S96x256_S256x1024_S96x1024_1_0_0_1_n_n

theorem lhs_0 (j : S96x1024.Idx) (k : D.contr.Idx) : (D.lhsIdx j k 0 : ℕ) = j 0 := by
  simp [DotDims.lhsIdx, D, dot_S96x256_S256x1024_S96x1024_1_0_0_1_n_n]; rfl
theorem lhs_1 (j : S96x1024.Idx) (k : D.contr.Idx) : (D.lhsIdx j k 1 : ℕ) = k ⟨0, by decide⟩ := by
  simp [DotDims.lhsIdx, D, dot_S96x256_S256x1024_S96x1024_1_0_0_1_n_n]; rfl
theorem rhs_0 (j : S96x1024.Idx) (k : D.contr.Idx) : (D.rhsIdx j k 0 : ℕ) = k ⟨0, by decide⟩ := by
  simp [DotDims.rhsIdx, D, dot_S96x256_S256x1024_S96x1024_1_0_0_1_n_n]; rfl
theorem rhs_1 (j : S96x1024.Idx) (k : D.contr.Idx) : (D.rhsIdx j k 1 : ℕ) = j 1 := by
  simp [DotDims.rhsIdx, D, dot_S96x256_S256x1024_S96x1024_1_0_0_1_n_n]; rfl

/-- A contraction index is its one coordinate. -/
abbrev ce : D.contr.Idx ≃ Fin 256 := contrEquiv1 D 256 (by decide) (by decide)

/-- A finite sum of reals, coerced. -/
theorem coe_sum {ι : Type} (s : Finset ι) (f : ι → ℝ) : ((∑ k ∈ s, f k : ℝ) : EReal) = ∑ k ∈ s, ((f k : ℝ) : EReal) := by
  classical
  induction s using Finset.induction_on with
  | empty => simp
  | insert a s ha ih => rw [Finset.sum_insert ha, Finset.sum_insert ha, EReal.coe_add, ih]

theorem dot_apply (x : FVec Ideal S96x256 .bf16) (w : FVec Ideal S256x1024 .bf16) (r : Fin 96) (n : Fin 1024) :
    (matmul D none x w (constant S96x1024 .f32 0x00000000#32) : FVec Ideal S96x1024 .f32) (ix2 r n)
      = ∑ k : Fin 256, x (ix2 r k) * w (ix2 k n) := by
  simp only [matmul]
  rw [Ideal.matmul_constant_zero_apply, ← Equiv.sum_comp ce.symm]
  refine Finset.sum_congr rfl fun k _ => ?_
  congr 1
  · refine congrArg x (funext fun a => Fin.ext ?_)
    match a with
    | ⟨0, _⟩ => exact lhs_0 _ _
    | ⟨1, _⟩ => exact (lhs_1 _ _).trans (contrEquiv1_symm_val D 256 _ _ k)
  · refine congrArg w (funext fun a => Fin.ext ?_)
    match a with
    | ⟨0, _⟩ => exact (rhs_0 _ _).trans (contrEquiv1_symm_val D 256 _ _ k)
    | ⟨1, _⟩ => exact rhs_1 _ _

/-- One product added to a real accumulator entry. -/
theorem step_apply (a : FVec Ideal S96x1024 .f32) (x : Vec Ideal S1x1x96x256 .bf16) (w : FVec Ideal S256x1024 .bf16)
    (r : Fin 96) (n : Fin 1024) (α : ℝ) (ξ ω : Fin 256 → ℝ) (ha : a (ix2 r n) = (α : EReal))
    (hx : ∀ k, x (ix4 (0 : Fin 1) (0 : Fin 1) r k) = (ξ k : EReal)) (hw : ∀ k, w (ix2 k n) = (ω k : EReal)) :
    step a x w (ix2 r n) = ((α + ∑ k, ξ k * ω k : ℝ) : EReal) := by
  unfold step
  rw [addf_apply, dot_apply, ha, EReal.coe_add, coe_sum]
  congr 1
  refine Finset.sum_congr rfl fun k _ => ?_
  rw [EReal.coe_mul, hw k, ← hx k]
  congr 1
  refine shapeCast_apply _ _ _ _ ?_
  rw [Shape.rowMajor_val_four, Shape.rowMajor_val_two]
  show ((0 * 1 + 0) * 96 + r.val) * 256 + k.val = r.val * 256 + k.val
  omega

/-! ## The accumulator -/

theorem wT_apply (x1 : Vec Ideal S3328x1024 .i8) (t : Fin 13) (k : Fin 256) (n : Fin 1024) :
    wT x1 t (ix2 k n) = x1 (ix2 (⟨256 * t.val + k.val, by omega⟩ : Fin 3328) n) := by
  unfold wT
  rw [View.ld_unit (S := S3328x1024)]
  refine extractStridedSlice_apply _ _ _ _ _ fun a => ?_
  match a with
  | ⟨0, _⟩ => rfl
  | ⟨1, _⟩ => exact (Nat.zero_add _).symm

theorem xT_apply (x0 : Vec Ideal S13x5x96x256 .bf16) (t : Fin 13) (j : Fin 5) (r : Fin 96) (k : Fin 256) :
    xT x0 t j (ix4 (0 : Fin 1) (0 : Fin 1) r k) = x0 (ix4 t j r k) := by
  unfold xT
  rw [View.ld_unit (S := S13x5x96x256)]
  refine extractStridedSlice_apply _ _ _ _ _ fun a => ?_
  match a with
  | ⟨0, _⟩ => rfl
  | ⟨1, _⟩ => rfl
  | ⟨2, _⟩ => exact (Nat.zero_add _).symm
  | ⟨3, _⟩ => exact (Nat.zero_add _).symm

section Acc
variable (x0 : Vec Ideal S13x5x96x256 .bf16) (x1 : Vec Ideal S3328x1024 .i8) (X : S13x5x96x256.Idx → ℝ)

/-- Tile `t`'s contribution to the accumulator's entry `(r, n)`. -/
def tileR (r : Fin 96) (n : Fin 1024) (t : Fin 13) : ℝ :=
  ∑ k : Fin 256, ∑ j : Fin 5, X (ix4 t j r k) * (weight (x1 (ix2 (⟨256 * t.val + k.val, by omega⟩ : Fin 3328) n)).toNat j : ℝ)

theorem acc_apply (hX : ∀ i, x0 i = (X i : EReal)) (r : Fin 96) (n : Fin 1024) :
    ∀ (N : ℕ) (h : N ≤ 13), acc x0 x1 N h (ix2 r n) = ((∑ t : Fin N, tileR x1 X r n (t.castLE h) : ℝ) : EReal)
  | 0, _ => by
    show Ideal.ofBits .f32 0x00000000#32 = _
    simp
  | N + 1, h => by
    have ih := acc_apply hX r n N (Nat.le_of_succ_le h)
    have hx : ∀ (j : Fin 5) (k : Fin 256), xT x0 ⟨N, h⟩ j (ix4 (0 : Fin 1) (0 : Fin 1) r k) = (X (ix4 ⟨N, h⟩ j r k) : EReal) :=
      fun j k => (xT_apply x0 _ j r k).trans (hX _)
    have hb : ∀ k : Fin 256, wT x1 ⟨N, h⟩ (ix2 k n) = x1 (ix2 (⟨256 * N + k.val, by omega⟩ : Fin 3328) n) :=
      fun k => wT_apply x1 ⟨N, h⟩ k n
    rw [acc, tile,
      step_apply _ _ _ r n _ _ _ (step_apply _ _ _ r n _ _ _ (step_apply _ _ _ r n _ _ _ (step_apply _ _ _ r n _ _ _
        (step_apply _ _ _ r n _ _ _ ih (hx 0) (fun k => klo_apply _ (ix2 k n)))
        (hx 1) (fun k => klo1_apply _ (ix2 k n))) (hx 2) (fun k => klo2_apply _ (ix2 k n)))
        (hx 3) (fun k => khi_apply _ (ix2 k n))) (hx 4) (fun k => khi1_apply _ (ix2 k n))]
    refine congrArg _ ?_
    rw [Fin.sum_univ_castSucc (n := N)]
    have hs : ∑ t : Fin N, tileR x1 X r n (t.castSucc.castLE h) = ∑ t : Fin N, tileR x1 X r n (t.castLE (Nat.le_of_succ_le h)) := rfl
    have e : (Fin.castLE h (Fin.last N) : Fin 13) = ⟨N, h⟩ := rfl
    rw [hs, e]
    generalize ∑ t : Fin N, tileR x1 X r n (t.castLE (Nat.le_of_succ_le h)) = S
    simp only [hb, tileR, Fin.sum_univ_five, Finset.sum_add_distrib]
    ring

/-- The accumulator's entry `(r, n)` after all tiles, as a real. -/
def accR (r : Fin 96) (n : Fin 1024) : ℝ := ∑ t : Fin 13, tileR x1 X r n t

/-- The block at an index. -/
theorem fin_apply (hX : ∀ i, x0 i = (X i : EReal)) (s : Elt Ideal .f32) (m : Fin 48) (n : Fin 1024) :
    fin (acc x0 x1 13 le_rfl) s (ix2 m n)
      = ((accR x1 X ⟨m.val, by omega⟩ n - 3 * accR x1 X ⟨48 + m.val, by omega⟩ n : ℝ) : EReal) * s := by
  have e1 : extractStridedSlice S48x1024 ![0, 0] (acc x0 x1 13 le_rfl) slices_S96x1024_o0_0_S48x1024 (ix2 m n)
      = acc x0 x1 13 le_rfl (ix2 (⟨m.val, by omega⟩ : Fin 96) n) :=
    extractStridedSlice_apply _ _ _ _ _ fun a => by
      match a with
      | ⟨0, _⟩ => exact (Nat.zero_add _).symm
      | ⟨1, _⟩ => exact (Nat.zero_add _).symm
  have e2 : extractStridedSlice S48x1024 ![48, 0] (acc x0 x1 13 le_rfl) slices_S96x1024_o48_0_S48x1024 (ix2 m n)
      = acc x0 x1 13 le_rfl (ix2 (⟨48 + m.val, by omega⟩ : Fin 96) n) :=
    extractStridedSlice_apply _ _ _ _ _ fun a => by
      match a with
      | ⟨0, _⟩ => rfl
      | ⟨1, _⟩ => exact (Nat.zero_add _).symm
  rw [acc_apply x0 x1 X hX] at e1 e2
  show (extractStridedSlice S48x1024 ![0, 0] (acc x0 x1 13 le_rfl) slices_S96x1024_o0_0_S48x1024 (ix2 m n)
    - Ideal.ofBits .f32 0x40400000#32 * extractStridedSlice S48x1024 ![48, 0] (acc x0 x1 13 le_rfl) slices_S96x1024_o48_0_S48x1024 (ix2 m n)) * s = _
  rw [e1, e2, f32_three, ← EReal.coe_mul, ← EReal.coe_sub]
  rfl

end Acc

end Cert.KernelIdeal.Value
-- ==== Proof.Host.lean ====
/-
  WHAT THE HOST HANDS THE KERNEL, as closed terms of the three arguments: the left operands (`operands`, the padded
  activations split by digit, over their shifted copies), the bytes with three rows of zeros below (3280 rows, whole words of four) (`bytes`), and the
  scale as a one-by-one array.
-/
module

public import proofs.«01_k».proof.Proof.Gen.KernelIdeal.Frame
public import Idealize.ShloMosaic.Lib.Pipeline.Value
public import Idealize.ShloMosaic.Lib.ValueIdxCore

@[expose] public section

noncomputable section

namespace Cert.KernelIdeal.Value

open Idealize.ShloMosaic Idealize.ShloMosaic.TcCoe Idealize.ShloMosaic.Tactic Idealize.ShloMosaic.StableHlo
open Cert.KernelIdeal Cert.KernelIdeal.Gen

variable {F : FTy → Type} [FloatOps F]

/-- The activations with 256 zero columns to the right. -/
def padded (a0 : FVec F S48x1x16384 .bf16) : FVec F S48x16640 .bf16 :=
  pad S48x16640 ![0, 0] ![0, 256] ![0, 0] (shapeCast S48x16384 a0 shapeCasts_S48x1x16384_S48x16384) (sitofp .bf16 (constantI S_ 32 0#32))
    pads_S48x16384_S48x16640_000_02560 h_S_
/-- The same, by tile, digit, row and column of the tile. -/
def upper (a0 : FVec F S48x1x16384 .bf16) : FVec F S13x5x48x256 .bf16 :=
  transpose S13x5x48x256 [1, 3, 0, 2] (shapeCast S48x13x256x5 (padded a0) shapeCasts_S48x16640_S48x13x256x5) transposes_S48x13x256x5_S13x5x48x256_1_3_0_2
/-- One array of zeros with a unit digit axis. -/
def zeroPiece : FVec F S13x1x48x256 .bf16 :=
  broadcastInDim S13x1x48x256 ![0, 2, 3] bcast_S13x48x256_S13x1x48x256_0_2_3 (broadcastInDim S13x48x256 ![] bcast_S_S13x48x256 (constant S_ .bf16 0x0000#16))
/-- A slice of one digit, its unit axis dropped and put back. -/
def piece (x : FVec F S13x1x48x256 .bf16) : FVec F S13x1x48x256 .bf16 :=
  broadcastInDim S13x1x48x256 ![0, 2, 3] bcast_S13x48x256_S13x1x48x256_0_2_3 (shapeCast S13x48x256 x shapeCasts_S13x1x48x256_S13x48x256)
/-- The five pieces of the lower half: nothing, digits 0 and 1, nothing, digit 3. -/
def pieces (a0 : FVec F S48x1x16384 .bf16) : Fin 5 → FVec F S13x1x48x256 .bf16
  | 0 => zeroPiece
  | 1 => piece (extractStridedSlice S13x1x48x256 ![0, 0, 0, 0] (upper a0) slices_S13x5x48x256_S13x1x48x256_0_0_0_0)
  | 2 => piece (extractStridedSlice S13x1x48x256 ![0, 1, 0, 0] (upper a0) slices_S13x5x48x256_S13x1x48x256_0_1_0_0)
  | 3 => zeroPiece
  | 4 => piece (extractStridedSlice S13x1x48x256 ![0, 3, 0, 0] (upper a0) slices_S13x5x48x256_S13x1x48x256_0_3_0_0)
/-- The lower half. -/
def lower (a0 : FVec F S48x1x16384 .bf16) : FVec F S13x5x48x256 .bf16 :=
  concatenate S13x5x48x256 1 [⟨S13x1x48x256, pieces a0 0⟩, ⟨S13x1x48x256, pieces a0 1⟩, ⟨S13x1x48x256, pieces a0 2⟩, ⟨S13x1x48x256, pieces a0 3⟩, ⟨S13x1x48x256, pieces a0 4⟩]
    concatenates_S13x1x48x256_S13x1x48x256_S13x1x48x256_S13x1x48x256_S13x1x48x256_S13x5x48x256_d1
/-- The kernel's left operands. -/
def operands (a0 : FVec F S48x1x16384 .bf16) : FVec F S13x5x96x256 .bf16 :=
  concatenate S13x5x96x256 2 [⟨S13x5x48x256, upper a0⟩, ⟨S13x5x48x256, lower a0⟩] concatenates_S13x5x48x256_S13x5x48x256_S13x5x96x256_d2
/-- The kernel's bytes. -/
def bytes (a1 : IVec S3277x13312 8) : IVec S3280x13312 8 :=
  pad S3280x13312 ![0, 0] ![3, 0] ![0, 0] a1 (trunci 8 (constantI S_ 32 0#32) natLt_8_32) pads_S3277x13312_S3280x13312_030_000 h_S_

variable (m : (ℓ : Loc nD τ sig) → Buf (Elt F) ℓ) (c : Dev nD)

theorem V_bytes : V m c main_v0 = bytes (m ((c.tc : Thread nD τ).loc main_arg1)) := by
  show after (List.flatten [hostOps0, hostOps0_1, hostOps0_2, hostOps0_3, hostOps0_4]) (fun b => m (c, b)) (Proc.devRef .tc main_v0) = _
  simp only [List.flatten_cons, List.flatten_nil, List.cons_append, List.nil_append, List.append_nil]
  after_results_simp
  rfl

theorem V_scale : V m c main_v21 = shapeCast S1x1 (m ((c.tc : Thread nD τ).loc main_arg2) : FVec F S_ .f32) shapeCasts_S_S1x1 := by
  show after (List.flatten [hostOps0, hostOps0_1, hostOps0_2, hostOps0_3, hostOps0_4]) (fun b => m (c, b)) (Proc.devRef .tc main_v21) = _
  simp only [List.flatten_cons, List.flatten_nil, List.cons_append, List.nil_append, List.append_nil]
  after_results_simp
  rfl

theorem V_operands : V m c main_v20 = operands (m ((c.tc : Thread nD τ).loc main_arg0)) := by
  show after (List.flatten [hostOps0, hostOps0_1, hostOps0_2, hostOps0_3, hostOps0_4]) (fun b => m (c, b)) (Proc.devRef .tc main_v20) = _
  simp only [List.flatten_cons, List.flatten_nil, List.cons_append, List.nil_append, List.append_nil]
  after_results_simp
  rfl

end Cert.KernelIdeal.Value
-- ==== Proof.HostValue.lean ====
/-
  THE KERNEL'S OPERANDS AT AN INDEX, over the extended reals, when every activation is a real number: row `m` of the upper
  half holds the activations by tile, digit and column, with zeros past the last one; row `48 + m` of the lower half
  holds the ones its weight's next digit must be taken from.
-/
module

public import proofs.«01_k».proof.Proof.Host
public import proofs.«01_k».proof.Proof.Digits
public import Idealize.ShloMosaic.Lib.ValueIdx
public import Idealize.ShloMosaic.Lib.KernelVsHost

@[expose] public section

noncomputable section

namespace Cert.KernelIdeal.Value

open Idealize.ShloMosaic Idealize.ShloMosaic.TcCoe Idealize.ShloMosaic.ValueIdx
open Cert.KernelIdeal Cert.KernelIdeal.Gen

/-- Activation `i` of row `m` as a real, zero past the last. -/
def xr (a0 : FVec Ideal S48x1x16384 .bf16) (m : Fin 48) (i : ℕ) : ℝ :=
  if h : i < 16384 then EReal.toReal (a0 (ix3 m (0 : Fin 1) ⟨i, h⟩)) else 0

theorem xr_zero (a0 : FVec Ideal S48x1x16384 .bf16) (m : Fin 48) (i : ℕ) (h : 16384 ≤ i) : xr a0 m i = 0 :=
  dif_neg (by omega)

/-- The activation the lower half holds for packed row `p` and digit `j`. -/
def lowR (a0 : FVec Ideal S48x1x16384 .bf16) (m : Fin 48) (p : ℕ) : Fin 5 → ℝ
  | 0 => 0
  | 1 => xr a0 m (p * 5)
  | 2 => xr a0 m (p * 5 + 1)
  | 3 => 0
  | 4 => xr a0 m (p * 5 + 3)

theorem zero_bf16 : FloatOps.sitofp (F := Ideal) .bf16 (0#32) = (0 : EReal) := by
  show ((((0#32 : BitVec 32).toInt : ℝ)) : EReal) = 0
  simp

section
variable (a0 : FVec Ideal S48x1x16384 .bf16) (h0 : ∀ i, a0 i = (EReal.toReal (a0 i) : EReal))
include h0

theorem padded_apply (m : Fin 48) (i : Fin 16640) : padded a0 (ix2 m i) = (xr a0 m i.val : EReal) := by
  unfold padded xr
  by_cases h : i.val < 16384
  · rw [dif_pos h, ← h0, pad_apply_of_inside _ _ _ _ _ _ _ _ (ix2 m (⟨i.val, h⟩ : Fin 16384)) (fun a => by
      match a with
      | ⟨0, _⟩ => show m.val = 0 + m.val * (0 + 1); omega
      | ⟨1, _⟩ => show i.val = 0 + i.val * (0 + 1); omega)]
    refine shapeCast_apply _ _ _ _ ?_
    rw [Shape.rowMajor_val_three, Shape.rowMajor_val_two]
    show (m.val * 1 + 0) * 16384 + i.val = m.val * 16384 + i.val
    omega
  · rw [dif_neg h, pad_apply_of_not_inside _ _ _ _ _ _ _ _ (1 : Fin 2) (fun hc => h (by
      have h2 := hc.2.2
      have e : (i.val - 0) / (0 + 1) < 16384 := h2
      omega))]
    exact zero_bf16

theorem upper_apply (t : Fin 13) (j : Fin 5) (m : Fin 48) (k : Fin 256) :
    upper a0 (ix4 t j m k) = (xr a0 m ((256 * t.val + k.val) * 5 + j.val) : EReal) := by
  unfold upper
  rw [transpose_apply _ _ _ _ (ix4 m t k j) (fun b => by
    match b with
    | ⟨0, _⟩ => rfl
    | ⟨1, _⟩ => rfl
    | ⟨2, _⟩ => rfl
    | ⟨3, _⟩ => rfl)]
  rw [shapeCast_apply _ _ _ (ix2 m (⟨(256 * t.val + k.val) * 5 + j.val, by omega⟩ : Fin 16640)) (by
    rw [Shape.rowMajor_val_two, Shape.rowMajor_val_four]
    show m.val * 16640 + ((256 * t.val + k.val) * 5 + j.val) = ((m.val * 13 + t.val) * 256 + k.val) * 5 + j.val
    omega)]
  exact padded_apply a0 h0 m _

omit h0 in
theorem zeroPiece_apply (i : S13x1x48x256.Idx) : (zeroPiece i : Ideal .bf16) = ((0 : ℝ) : EReal) := by
  show Ideal.ofBits .bf16 0x0000#16 = _
  rw [Digits.bf16_zero]; rfl

omit h0 in
theorem piece_apply (x : FVec Ideal S13x1x48x256 .bf16) (t : Fin 13) (m : Fin 48) (k : Fin 256) :
    piece x (ix4 t (0 : Fin 1) m k) = x (ix4 t (0 : Fin 1) m k) := by
  unfold piece
  rw [broadcastInDim_apply _ _ _ _ (ix3 t m k) (fun a => by
    match a with
    | ⟨0, _⟩ => rfl
    | ⟨1, _⟩ => rfl
    | ⟨2, _⟩ => rfl)]
  refine shapeCast_apply _ _ _ _ ?_
  rw [Shape.rowMajor_val_four, Shape.rowMajor_val_three]
  show ((t.val * 1 + 0) * 48 + m.val) * 256 + k.val = (t.val * 48 + m.val) * 256 + k.val
  omega

omit h0 in
theorem slice_apply (off : ℕ) (hoff : off < 5) (x : FVec Ideal S13x5x48x256 .bf16) (h : S13x5x48x256.Slices ![0, off, 0, 0] S13x1x48x256)
    (t : Fin 13) (m : Fin 48) (k : Fin 256) :
    extractStridedSlice S13x1x48x256 ![0, off, 0, 0] x h (ix4 t (0 : Fin 1) m k) = x (ix4 t ⟨off, hoff⟩ m k) :=
  extractStridedSlice_apply _ _ _ _ _ fun a => by
    match a with
    | ⟨0, _⟩ => exact (Nat.zero_add _).symm
    | ⟨1, _⟩ => rfl
    | ⟨2, _⟩ => exact (Nat.zero_add _).symm
    | ⟨3, _⟩ => exact (Nat.zero_add _).symm

theorem pieces_apply (t : Fin 13) (m : Fin 48) (k : Fin 256) : ∀ j : Fin 5,
    pieces a0 j (ix4 t (0 : Fin 1) m k) = (lowR a0 m (256 * t.val + k.val) j : EReal)
  | 0 => zeroPiece_apply _
  | 1 => ((piece_apply _ t m k).trans (slice_apply 0 (by omega) _ _ t m k)).trans (upper_apply a0 h0 t 0 m k)
  | 2 => ((piece_apply _ t m k).trans (slice_apply 1 (by omega) _ _ t m k)).trans (upper_apply a0 h0 t 1 m k)
  | 3 => zeroPiece_apply _
  | 4 => ((piece_apply _ t m k).trans (slice_apply 3 (by omega) _ _ t m k)).trans (upper_apply a0 h0 t 3 m k)

theorem lower_apply (t : Fin 13) (j : Fin 5) (m : Fin 48) (k : Fin 256) :
    lower a0 (ix4 t j m k) = (lowR a0 m (256 * t.val + k.val) j : EReal) := by
  rw [← pieces_apply a0 h0 t m k j]
  exact concatenate_ofFn_unit_apply (t := S13x5x48x256) (s₁ := S13x1x48x256) 1 (pieces a0) _ rfl rfl (ix4 t j m k) j rfl
    (ix4 t (0 : Fin 1) m k) (fun b hb => by
      match b with
      | ⟨0, _⟩ => rfl
      | ⟨1, _⟩ => exact absurd rfl hb
      | ⟨2, _⟩ => rfl
      | ⟨3, _⟩ => rfl)

/-- The real number every left operand is. -/
def X (a0 : FVec Ideal S48x1x16384 .bf16) (i : S13x5x96x256.Idx) : ℝ :=
  if h : (i 2).val < 48 then xr a0 ⟨(i 2).val, h⟩ ((256 * (i 0).val + (i 3).val) * 5 + (i 1).val)
  else lowR a0 ⟨(i 2).val - 48, by have : (i 2).val < 96 := (i 2).isLt; omega⟩ (256 * (i 0).val + (i 3).val) (i 1)

omit h0 in
theorem X_upper (t : Fin 13) (j : Fin 5) (m : Fin 48) (k : Fin 256) (h : m.val < 96) :
    X a0 (ix4 t j (⟨m.val, h⟩ : Fin 96) k) = xr a0 m ((256 * t.val + k.val) * 5 + j.val) :=
  dif_pos m.isLt

omit h0 in
theorem X_lower (t : Fin 13) (j : Fin 5) (m : Fin 48) (k : Fin 256) (h : 48 + m.val < 96) :
    X a0 (ix4 t j (⟨48 + m.val, h⟩ : Fin 96) k) = lowR a0 m (256 * t.val + k.val) j := by
  unfold X
  rw [dif_neg (by show ¬ 48 + m.val < 48; omega)]
  congr 1
  exact Fin.ext (by show 48 + m.val - 48 = m.val; omega)

theorem operands_apply (i : S13x5x96x256.Idx) : operands a0 i = (X a0 i : EReal) := by
  obtain ⟨t, j, r, k, rfl⟩ : ∃ (t : Fin 13) (j : Fin 5) (r : Fin 96) (k : Fin 256), i = ix4 t j r k := ⟨_, _, _, _, eq_ix4 i⟩
  by_cases h : r.val < 48
  · have e := X_upper a0 t j ⟨r.val, h⟩ k r.isLt
    rw [show X a0 (ix4 t j r k) = _ from e, ← upper_apply a0 h0]
    exact concatenate_pair_apply_left (t := S13x5x96x256) (s₁ := S13x5x48x256) (s₂ := S13x5x48x256) 2 (upper a0) (lower a0) _ (ix4 t j r k) rfl (ix4 t j (⟨r.val, h⟩ : Fin 48) k) (fun b => by
      match b with
      | ⟨0, _⟩ => rfl
      | ⟨1, _⟩ => rfl
      | ⟨2, _⟩ => rfl
      | ⟨3, _⟩ => rfl)
  · obtain ⟨q, hq⟩ : ∃ q : Fin 48, r = (⟨48 + q.val, by omega⟩ : Fin 96) :=
      ⟨⟨r.val - 48, by omega⟩, Fin.ext (by show r.val = 48 + (r.val - 48); omega)⟩
    rw [hq, X_lower a0 t j q k, ← lower_apply a0 h0]
    exact concatenate_pair_apply_right (t := S13x5x96x256) (s₁ := S13x5x48x256) (s₂ := S13x5x48x256) 2 (upper a0) (lower a0) _ _ rfl rfl (ix4 t j q k) (fun b hb => by
      match b with
      | ⟨0, _⟩ => rfl
      | ⟨1, _⟩ => rfl
      | ⟨2, _⟩ => exact absurd rfl hb
      | ⟨3, _⟩ => rfl) (by show q.val + 48 = 48 + q.val; omega)

end

/-- A packed row of the argument is that row of the padded bytes. -/
theorem bytes_apply (a1 : IVec S3277x13312 8) (p : ℕ) (hp : p < 3277) (n : Fin 13312) :
    bytes a1 (ix2 (⟨p, by omega⟩ : Fin 3280) n) = a1 (ix2 (⟨p, hp⟩ : Fin 3277) n) := by
  unfold bytes
  exact pad_apply_of_inside _ _ _ _ _ _ _ _ _ (fun a => by
      match a with
      | ⟨0, _⟩ => show p = 0 + p * (0 + 1); omega
      | ⟨1, _⟩ => show n.val = 0 + n.val * (0 + 1); omega)

end Cert.KernelIdeal.Value
-- ==== Proof.Total.lean ====
/-
  THE SUM OF A BLOCK ENTRY, over the reals: the kernel's upper row less three times its lower row is the plain sum, over
  the 3277 packed rows and their five digits, of activation times digit. The kernel's 3328 rows are 13 tiles of 256; the
  51 rows past the array meet only zero activations, so what bytes stand there does not matter.
-/
module

public import proofs.«01_k».proof.Proof.BlockValue
public import proofs.«01_k».proof.Proof.HostValue

@[expose] public section

noncomputable section

open scoped BigOperators

namespace Cert.KernelIdeal.Value

open Idealize.ShloMosaic Idealize.ShloMosaic.TcCoe Idealize.ShloMosaic.ValueIdx
open Cert.KernelIdeal Cert.KernelIdeal.Gen Cert.Digits

/-- A sum over 13 tiles of 256 rows is the sum over all rows. -/
theorem sum_tiles (g : ℕ → ℝ) : ∑ t : Fin 13, ∑ k : Fin 256, g (256 * t.val + k.val) = ∑ p ∈ Finset.range 3328, g p := by
  rw [← Fin.sum_univ_eq_sum_range g 3328, ← Fintype.sum_prod_type']
  refine Fintype.sum_equiv (finProdFinEquiv : Fin 13 × Fin 256 ≃ Fin (13 * 256)) _ (fun p : Fin (13 * 256) => g p.val) fun q => ?_
  show g (256 * q.1.val + q.2.val) = g (q.2.val + 256 * q.1.val)
  rw [Nat.add_comm]

/-- One packed row's share: its five activations times its byte's digits. -/
def rowR (a0 : FVec Ideal S48x1x16384 .bf16) (m : Fin 48) (b p : ℕ) : ℝ :=
  ∑ j : Fin 5, xr a0 m (p * 5 + j.val) * (digit b j : ℝ)

theorem rowR_of_weights (a0 : FVec Ideal S48x1x16384 .bf16) (m : Fin 48) (b p : ℕ) (h : p < 3277 → b < 243) :
    ∑ j : Fin 5, xr a0 m (p * 5 + j.val) * (weight b j : ℝ) - 3 * ∑ j : Fin 5, lowR a0 m p j * (weight b j : ℝ)
      = rowR a0 m b p := by
  unfold rowR
  by_cases hp : p < 3277
  · simp only [Fin.sum_univ_five, lowR, digit_0, digit_1, digit_2, digit_3, digit_4 b (h hp), Int.cast_sub, Int.cast_mul,
      Int.cast_ofNat]
    simp only [Fin.val_zero, Fin.val_one, Fin.val_two, add_zero]
    have e3 : ((3 : Fin 5) : ℕ) = 3 := rfl
    have e4 : ((4 : Fin 5) : ℕ) = 4 := rfl
    rw [e3, e4]
    ring
  · have z : ∀ i : ℕ, xr a0 m (p * 5 + i) = 0 := fun i => xr_zero a0 m _ (by omega)
    have z0 : xr a0 m (p * 5) = 0 := xr_zero a0 m _ (by omega)
    simp [z, z0, Fin.sum_univ_five, lowR]

theorem rowR_zero (a0 : FVec Ideal S48x1x16384 .bf16) (m : Fin 48) (b p : ℕ) (h : 3277 ≤ p) : rowR a0 m b p = 0 := by
  unfold rowR
  exact Finset.sum_eq_zero fun j _ => by rw [xr_zero a0 m _ (by omega), zero_mul]

/-- The kernel's combination of two accumulator rows is the plain sum. -/
theorem acc_total (a0 : FVec Ideal S48x1x16384 .bf16) (x1 : Vec Ideal S3328x1024 .i8) (m : Fin 48) (n : Fin 1024) (B : ℕ → ℕ)
    (hB : ∀ p : Fin 3328, p.val < 3277 → (x1 (ix2 p n)).toNat = B p.val) (hv : ∀ p, p < 3277 → B p < 243) :
    accR x1 (X a0) ⟨m.val, by omega⟩ n - 3 * accR x1 (X a0) ⟨48 + m.val, by omega⟩ n
      = ∑ p ∈ Finset.range 3277, rowR a0 m (B p) p := by
  have hsub : Finset.range 3277 ⊆ Finset.range 3328 := Finset.range_subset_range.mpr (by omega)
  rw [Finset.sum_subset hsub (fun p _ hp => rowR_zero a0 m _ p (by simpa using hp)), ← sum_tiles]
  unfold accR tileR
  rw [Finset.mul_sum, ← Finset.sum_sub_distrib]
  refine Finset.sum_congr rfl fun t _ => ?_
  rw [Finset.mul_sum, ← Finset.sum_sub_distrib]
  refine Finset.sum_congr rfl fun k _ => ?_
  simp only [X_upper, X_lower]
  have hp : 256 * t.val + k.val < 3328 := by omega
  by_cases h : 256 * t.val + k.val < 3277
  · rw [hB ⟨256 * t.val + k.val, hp⟩ h]
    exact rowR_of_weights a0 m _ _ fun _ => hv _ h
  · rw [rowR_of_weights a0 m _ _ fun h' => absurd h' h, rowR_zero a0 m _ _ (by omega), rowR_zero a0 m _ _ (by omega)]

end Cert.KernelIdeal.Value
-- ==== Proof.KernelIdealFrame.lean ====
/-
  THE FRAME: the program runs to its end, its arguments end unchanged, every counter ends at zero. Of the packed bytes' window
  only the rows inside the array are stated (its block overhangs the array by 48 rows); the result's window is not stated at all.
-/
module

public import proofs.«01_k».proof.Proof.KernelIdealBody
public import Idealize.ShloMosaic.Lib.Claim

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A word for the rows of a block outside the array; nothing reads it. -/
def filler (t : Fin cfg0.N) : win0_1.block.Idx → Elt F .i8 := Pipeline.Dat.unnamed (cfg := cfg0) 1 t

/-- The packed bytes' block at point `t`, its rows inside the array, with `d` on the others. -/
abbrev blk1 (c : Dev nD) (t : Fin cfg0.N) (d : win0_1.block.Idx → Elt F .i8) : win0_1.block.Idx → Elt F .i8 :=
  win0_1.fill (grid0.coords t) d (iblk m c 1 t)

/-- The result's window is the one not stated. -/
def fgt : Fin 4 → Bool := fun | 0 => false | 1 => false | 2 => false | 3 => true

/-- The proof data: the arrays as the host leaves them; after a point the operands' buffers at their blocks. -/
def fdats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => blk1 m c t (filler t)
    | ⟨2, _⟩ => iblk m c 2 t
    | ⟨3, _⟩ => Pipeline.Dat.unnamed (cfg := cfg0) 3 t
  Φ _ := Pipeline.ΦA spec0 c
  q _ := fullShare
  owed _ := 0

theorem fA_eq (c : Dev nD) (w : Fin cfg0.W) : (fdats m 0 c).A w = V m c (Pipeline.arrRef spec0 w) := by
  dsimp only [fdats]

theorem fafter_0 (c : Dev nD) (t : Fin cfg0.N) : (fdats m 0 c).after 0 t = iblk m c 0 t := by dsimp only [fdats]
theorem fafter_1 (c : Dev nD) (t : Fin cfg0.N) : (fdats m 0 c).after 1 t = blk1 m c t (filler t) := by dsimp only [fdats]
theorem fafter_2 (c : Dev nD) (t : Fin cfg0.N) : (fdats m 0 c).after 2 t = iblk m c 2 t := by dsimp only [fdats]

/-- What the body finds in the operands' buffers. -/
theorem fbefore_0 (c : Dev nD) (t : Fin cfg0.N) (d) : (fdats m 0 c).before 0 t d = iblk m c 0 t :=
  before0_0_of m (fdats m 0 c) (fA_eq m c 0) (fafter_0 m c) t d
theorem fbefore_1 (c : Dev nD) (t : Fin cfg0.N) (d) : (fdats m 0 c).before 1 t d = blk1 m c t d := by
  unfold Dat.before; rw [if_pos (fetch0_1 t)]; rfl
theorem fbefore_2 (c : Dev nD) (t : Fin cfg0.N) (d) : (fdats m 0 c).before 2 t d = iblk m c 2 t :=
  before0_2_of m (fdats m 0 c) (fA_eq m c 2) (fafter_2 m c) t d

/-- The rows inside the array, out of a filled block. -/
theorem cut_blk1 (c : Dev nD) (t : Fin cfg0.N) (d : win0_1.block.Idx → Elt F .i8) :
    win0_1.cut (grid0.coords t) (blk1 m c t d) = iblk m c 1 t := win0_1.cut_fill _ _ _

/-- The table's entry for the body is the body. -/
theorem defs₀_row (t : Fin cfg0.N) : defs₀ (F := F) .tc cfg0.body (cfg0.bodyArgs t (cfg0.slots t)) = bodyAt0 t := by
  unfold defs₀; rw [Defs.onTc_tc]

/-- What the body is called with at point `t`, -/
def fbodyPre (c : Dev nD) (t : Fin cfg0.N) : sProp 𝕄 :=
  iprop((fdats m 0 c).Φ t.castSucc ∗ (fdats m 0 c).owesAt () t.castSucc
    ∗ (∃ d, owns (c : Thread nD τ) (ms0_0 t) fullShare ((fdats m 0 c).before 0 t d))
    ∗ (∃ d, owns (c : Thread nD τ) (ms0_1 t) fullShare ((fdats m 0 c).before 1 t d))
    ∗ (∃ d, owns (c : Thread nD τ) (ms0_2 t) fullShare ((fdats m 0 c).before 2 t d))
    ∗ (∃ d, owns (c : Thread nD τ) (ms0_3 t) fullShare d))

/-- and what it returns. -/
def fbodyPost (c : Dev nD) (t : Fin cfg0.N) : sProp 𝕄 :=
  iprop((fdats m 0 c).Φ t.succ ∗ (fdats m 0 c).owesAt () t.succ
    ∗ owns (c : Thread nD τ) (ms0_0 t) fullShare ((fdats m 0 c).after 0 t)
    ∗ (∃ d, owns (c : Thread nD τ) (ms0_1 t) fullShare (win0_1.fill (grid0.coords t) d (win0_1.cut (grid0.coords t) ((fdats m 0 c).after 1 t))))
    ∗ owns (c : Thread nD τ) (ms0_2 t) fullShare ((fdats m 0 c).after 2 t)
    ∗ (∃ d, owns (c : Thread nD τ) (ms0_3 t) fullShare d))

/-- The body at any point. -/
theorem fsound_body (c : Dev nD) (t : Fin cfg0.N) :
    fbodyPre m c t ⊢ wp frame (wpE (defs₀ (F := F)) Variants.none c none) Set.univ (bodyAt0 t) (fun _ => fbodyPost m c t) := by
  unfold fbodyPre fbodyPost bodyAt0
  simp only [fbefore_0, fbefore_1, fbefore_2]
  rw [show (fdats m 0 c).Φ t.succ = (fdats m 0 c).Φ t.castSucc from rfl,
    show (fdats m 0 c).owesAt () t.succ = (fdats m 0 c).owesAt () t.castSucc from rfl,
    fafter_0, fafter_1, fafter_2, cut_blk1]
  iintro ⟨HΦ, Ho, ⟨%d0, H0⟩, ⟨%d1, H1⟩, ⟨%d2, H2⟩, ⟨%d3, H3⟩⟩
  iapply ((kernelRun0_A c (grid0.coords t) _ _ _ _ _ _ _ _ (iblk m c 0 t) (blk1 m c t d1) (iblk m c 2 t)).2 Set.univ _)
  isplitl [H0]; · iexact H0
  isplitl [H1]; · iexact H1
  isplitl [H2]; · iexact H2
  isplitl [H3]; · iexists _; iexact H3
  iintro ⟨H0, H1, H2, ⟨%e3, H3⟩⟩
  isplitl [HΦ]; · iexact HΦ
  isplitl [Ho]; · iexact Ho
  isplitl [H0]; · iexact H0
  isplitl [H1]; · iexists d1; iexact H1
  isplitl [H2]; · iexact H2
  iexists _; unfold owns; iexists _; isplitr
  swap; · iexact H3
  ipureintro; rfl

/-- The same at the library's spelling. -/
theorem fbody_obligation (c : Dev nD) : BodyObligationLoose (fdats m 0 c) (defs₀ (F := F)) Variants.none () Set.univ fgt := fun t => by
  rw [bigSep_W0, bigSep_W0, defs₀_row]
  exact triple_restated (fsound_body m c t) rfl .rfl fun _ => .rfl

set_option backward.isDefEq.respectTransparency.types false in
set_option maxHeartbeats 800000 in
/-- The run: every buffer that is neither a window's array nor the program's last result ends as the host left it before
    the region, and every counter ends at zero. -/
theorem frun : θ_run defs (onTc (τ := τ) (main (F := F))) (s₀ m ρ)
    (fun r => Pipeline.RDat.FramePostR (cfgs 0) (fun c => (fdats m 0 c).toRForget fgt) {main_v23} (V m) r ∧ r.2.sem = fun _ => 0) :=
  Pipeline.θ_run_frame_around_T_forget (Q' := _) cfgs (fdats m) (0 : Fin 1) launch0 defs₀ Variants.none fgt {main_v23} m ρ main
    (hbody := fbody_obligation m) (hshare := fun c => (fdats m 0 c).share_full fun _ => rfl)
    (howed := fun _ _ => rfl) (V₀ := V0 m) (opss := [hostOps1]) (hsub := sfx_sub) (hfresh := sfx_fresh) (hkeep := sfx_keeps)
    (hT := by
      intro ops h op h' b hb
      simp only [List.mem_singleton] at h; subst h
      simp only [hostOps1, List.mem_singleton] at h'; subst h'
      exact Finset.mem_singleton.mpr (Proc.devRef_injective _ (Finset.mem_singleton.mp hb)))
    (hmain := hmain m Variants.none) (hA := fA_eq m) (hΦ := fun _ _ => rfl)

/-- The frame claim's statement, at any reading of the floats. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c =>
    ⟨((h.1 c).2 main_arg0 (by decide)).trans (V_main_arg0 m c), ((h.1 c).2 main_arg1 (by decide)).trans (V_main_arg1 m c),
      ((h.1 c).2 main_arg2 (by decide)).trans (V_main_arg2 m c)⟩, h.2⟩) (frun m ρ)

end Cert.KernelIdeal.Body

end
-- ==== Proof.Final.lean ====
/-
  THE KERNEL'S RESULT ARRAY: over the extended reals, with real activations and bytes below 243, the array the 13 grid points
  fill holds at `(m, n)` the sum over the packed rows and digits of activation times digit, times the scale.
-/
module

public import proofs.«01_k».proof.Proof.Total
public import proofs.«01_k».proof.Proof.KernelIdealFrame
public import Idealize.ShloMosaic.Lib.Pipeline.ValueKit.Geometry

@[expose] public section

noncomputable section

open scoped BigOperators

namespace Cert.KernelIdeal.Value

open Idealize.ShloMosaic Idealize.ShloMosaic.TcCoe Idealize.ShloMosaic.ValueIdx Idealize.ShloMosaic.Pipeline
open Cert.KernelIdeal Cert.KernelIdeal.Gen Cert.KernelIdeal.Body Cert.Digits
open Idealize.SL Idealize.SL.RA Idealize.SL.BI
open scoped Idealize.SL.BI
open Idealize.SL.BI.BIBase Idealize.SL.BI.Laws Idealize.SL.ProofMode Idealize.SL.Sem
open Idealize.ShloMosaic.Tactic Idealize.ShloMosaic.Rounds

local notation "𝕄" => MT nD τ sig Unit (Elt Ideal) ℕ (UR sig nD τ) ℕ

/-- The matrix product with the digits, times the scale. -/
def G (a0 : FVec Ideal S48x1x16384 .bf16) (a1 : IVec S3277x13312 8) (s : EReal) (i : S48x13312.Idx) : EReal :=
  ((∑ p : Fin 3277, rowR a0 (i 0) (a1 (ix2 p (i 1))).toNat p.val : ℝ) : EReal) * s

variable (m : (ℓ : Loc nD τ sig) → Buf (Elt Ideal) ℓ) (c : Dev nD)

/-- The three arguments. -/
abbrev arg0 : FVec Ideal S48x1x16384 .bf16 := m ((c.tc : Thread nD τ).loc main_arg0)
abbrev arg1 : IVec S3277x13312 8 := m ((c.tc : Thread nD τ).loc main_arg1)
abbrev arg2 : FVec Ideal S_ .f32 := m ((c.tc : Thread nD τ).loc main_arg2)

theorem index0 : ∀ t : Fin cfg0.N, ∀ a, win0_0.index t a = 0 := (by decide +kernel : ∀ t : Fin grid0.N, _)
theorem index1 : ∀ t : Fin cfg0.N, win0_1.index t (0 : Fin 2) = 0 ∧ win0_1.index t (1 : Fin 2) = t.val :=
  (by decide +kernel : ∀ t : Fin grid0.N, _)
theorem index2 : ∀ t : Fin cfg0.N, ∀ a, win0_2.index t a = 0 := (by decide +kernel : ∀ t : Fin grid0.N, _)
theorem index3 : ∀ t : Fin cfg0.N, win0_3.index t (0 : Fin 2) = 0 ∧ win0_3.index t (1 : Fin 2) = t.val :=
  (by decide +kernel : ∀ t : Fin grid0.N, _)

theorem lt_13 (t : Fin cfg0.N) : t.val < 13 := by have := t.isLt; have : cfg0.N = 13 := N_0; omega

/-- The first window's block is its whole array. -/
theorem iblk0_eq (t : Fin cfg0.N) : iblk m c 0 t = operands (arg0 m c) := by
  rw [← V_operands m c]
  funext j
  show V m c main_v20 (((cfg0.win 0).blk t).view.emb j) = V m c main_v20 j
  refine congrArg _ (funext fun a => Fin.ext ?_)
  have e := index0 t a
  match a, e with
  | ⟨0, _⟩, e => show win0_0.index t (0 : Fin 4) * 13 + 1 * (j 0).val = (j 0).val; have e : win0_0.index t (0 : Fin 4) = 0 := e; omega
  | ⟨1, _⟩, e => show win0_0.index t (1 : Fin 4) * 5 + 1 * (j 1).val = (j 1).val; have e : win0_0.index t (1 : Fin 4) = 0 := e; omega
  | ⟨2, _⟩, e => show win0_0.index t (2 : Fin 4) * 96 + 1 * (j 2).val = (j 2).val; have e : win0_0.index t (2 : Fin 4) = 0 := e; omega
  | ⟨3, _⟩, e => show win0_0.index t (3 : Fin 4) * 256 + 1 * (j 3).val = (j 3).val; have e : win0_0.index t (3 : Fin 4) = 0 := e; omega

theorem xsize1 : ∀ t : Fin cfg0.N, win0_1.xsize (grid0.coords t) (0 : Fin 2) = 3280 ∧ win0_1.xsize (grid0.coords t) (1 : Fin 2) = 1024 :=
  (by decide +kernel : ∀ t : Fin grid0.N, _)

/-- The second window's block at point `t`, on its rows inside the array, is columns `1024 t …` of the bytes. -/
theorem iblk1_apply (t : Fin cfg0.N) (j : (win0_1.xblock (grid0.coords t)).Idx) (p : Fin 3280) (n : Fin 1024)
    (hp : (j (0 : Fin 2)).val = p.val) (hn : (j (1 : Fin 2)).val = n.val) :
    iblk m c 1 t j = bytes (arg1 m c) (ix2 p (⟨1024 * t.val + n.val, by have := lt_13 t; omega⟩ : Fin 13312)) := by
  rw [← V_bytes m c]
  show V m c main_v0 (((cfg0.win 1).blk t).view.emb j) = V m c main_v0 _
  refine congrArg _ (funext fun a => Fin.ext ?_)
  obtain ⟨e0, e1⟩ := index1 t
  match a with
  | ⟨0, _⟩ => show win0_1.index t (0 : Fin 2) * 3328 + 1 * (j (0 : Fin 2)).val = p.val; omega
  | ⟨1, _⟩ => show win0_1.index t (1 : Fin 2) * 1024 + 1 * (j (1 : Fin 2)).val = 1024 * t.val + n.val; omega

/-- So is the staging buffer's, whatever its rows outside the array hold. -/
theorem blk1_apply (t : Fin cfg0.N) (d : win0_1.block.Idx → Elt Ideal .i8) (p : Fin 3280) (n : Fin 1024) :
    blk1 m c t d (ix2 (⟨p.val, by omega⟩ : Fin 3328) n) = bytes (arg1 m c) (ix2 p (⟨1024 * t.val + n.val, by have := lt_13 t; omega⟩ : Fin 13312)) := by
  obtain ⟨x0, x1⟩ := xsize1 t
  have h : win0_1.moved (grid0.coords t) (ix2 (⟨p.val, by omega⟩ : Fin 3328) n) = true := (win0_1.moved_iff _ _).mpr fun a => by
    match a with
    | ⟨0, _⟩ => exact lt_of_lt_of_eq p.isLt x0.symm
    | ⟨1, _⟩ => exact lt_of_lt_of_eq n.isLt x1.symm
  unfold Body.blk1 Window.fill
  rw [dif_pos h]
  exact iblk1_apply m c t _ p n rfl rfl

/-- The third window's block is the scale. -/
theorem iblk2_apply (t : Fin cfg0.N) : iblk m c 2 t (ix2 (0 : Fin 1) (0 : Fin 1)) = arg2 m c ix0 := by
  show V m c main_v21 (((cfg0.win 2).blk t).view.emb (ix2 (0 : Fin 1) (0 : Fin 1))) = _
  rw [V_scale m c]
  unfold shapeCast
  exact congrArg _ (eq_ix0 _)

/-- What the body leaves at point `t`, at an index of its block, whatever the rows outside the array hold. -/
theorem outs_apply (h0 : ∀ i, arg0 m c i = (EReal.toReal (arg0 m c i) : EReal)) (h1 : ∀ i, (arg1 m c i).toNat < 243)
    (t : Fin cfg0.N) (d : win0_1.block.Idx → Elt Ideal .i8) (r : Fin 48) (n : Fin 1024) :
    out0_A_3 c (grid0.coords t) (ms0_0 t) (hs0_0 t) (ms0_1 t) (hs0_1 t) (ms0_2 t) (hs0_2 t) (ms0_3 t) (hs0_3 t) (iblk m c 0 t) (blk1 m c t d) (iblk m c 2 t) (ix2 r n)
      = G (arg0 m c) (arg1 m c) (arg2 m c ix0) (ix2 r (⟨1024 * t.val + n.val, by have := lt_13 t; omega⟩ : Fin 13312)) := by
  rw [out_eq, iblk0_eq, iblk2_apply]
  rw [fin_apply _ _ (X (arg0 m c)) (operands_apply _ h0)]
  unfold G
  congr 2
  rw [acc_total (arg0 m c) _ r n
    (fun p => if h : p < 3277 then (arg1 m c (ix2 (⟨p, h⟩ : Fin 3277) (⟨1024 * t.val + n.val, by have := lt_13 t; omega⟩ : Fin 13312))).toNat else 0)
    (fun p hp => by rw [dif_pos hp, ← bytes_apply (arg1 m c) p.val hp]; exact congrArg _ (blk1_apply m c t d ⟨p.val, by omega⟩ n))
    (fun p hp => by rw [dif_pos hp]; exact h1 _)]
  rw [← Fin.sum_univ_eq_sum_range (fun p => rowR (arg0 m c) r _ p) 3277]
  refine Finset.sum_congr rfl fun p _ => ?_
  rw [dif_pos p.isLt]

/-! ## The run, with the result's window stated -/

/-- The block of `G` that point `t` writes. -/
def outG (t : Fin cfg0.N) : win0_3.block.Idx → Elt Ideal .bf16 := fun j =>
  G (arg0 m c) (arg1 m c) (arg2 m c ix0) (((cfg0.win 3).blk t).view.emb j)

/-- The body leaves that block, whatever the rows of the bytes' block outside the array hold. -/
theorem outs_eq (h0 : ∀ i, arg0 m c i = (EReal.toReal (arg0 m c i) : EReal)) (h1 : ∀ i, (arg1 m c i).toNat < 243)
    (t : Fin cfg0.N) (d : win0_1.block.Idx → Elt Ideal .i8) :
    out0_A_3 c (grid0.coords t) (ms0_0 t) (hs0_0 t) (ms0_1 t) (hs0_1 t) (ms0_2 t) (hs0_2 t) (ms0_3 t) (hs0_3 t) (iblk m c 0 t) (blk1 m c t d) (iblk m c 2 t)
      = outG m c t := by
  funext j
  refine (congrArg _ (eq_ix2 (n0 := 48) (n1 := 1024) j)).trans ((outs_apply m c h0 h1 t d _ _).trans ?_)
  unfold outG
  refine congrArg _ (funext fun a => Fin.ext ?_)
  obtain ⟨e0, e1⟩ := index3 t
  match a with
  | ⟨0, _⟩ => show (j 0).val = win0_3.index t (0 : Fin 2) * 48 + 1 * (j 0).val; omega
  | ⟨1, _⟩ => show 1024 * t.val + (j 1).val = win0_3.index t (1 : Fin 2) * 1024 + 1 * (j 1).val; omega

/-- The proof data: the frame's, with the result's buffer at `outG` after a point. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => blk1 m c t (filler t)
    | ⟨2, _⟩ => iblk m c 2 t
    | ⟨3, _⟩ => outG m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (t : Fin cfg0.N) : (dats m 0 c).after 0 t = iblk m c 0 t := by dsimp only [dats]
theorem after_1 (t : Fin cfg0.N) : (dats m 0 c).after 1 t = blk1 m c t (filler t) := by dsimp only [dats]
theorem after_2 (t : Fin cfg0.N) : (dats m 0 c).after 2 t = iblk m c 2 t := by dsimp only [dats]
theorem after_3 (t : Fin cfg0.N) : (dats m 0 c).after 3 t = outG m c t := by dsimp only [dats]

theorem before_0 (t : Fin cfg0.N) (d) : (dats m 0 c).before 0 t d = iblk m c 0 t :=
  before0_0_of m (dats m 0 c) (A_eq m c 0) (after_0 m c) t d
theorem before_1 (t : Fin cfg0.N) (d) : (dats m 0 c).before 1 t d = blk1 m c t d := by
  unfold Dat.before; rw [if_pos (fetch0_1 t)]; rfl
theorem before_2 (t : Fin cfg0.N) (d) : (dats m 0 c).before 2 t d = iblk m c 2 t :=
  before0_2_of m (dats m 0 c) (A_eq m c 2) (after_2 m c) t d

/-- What the body is called with at point `t`, -/
def bodyPre (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (t : Fin cfg0.N) : sProp 𝕄 :=
  iprop((dats m 0 c).Φ t.succ ∗ (dats m 0 c).owesAt () t.succ
    ∗ owns (c : Thread nD τ) (ms0_0 t) fullShare ((dats m 0 c).after 0 t)
    ∗ (∃ d, owns (c : Thread nD τ) (ms0_1 t) fullShare (win0_1.fill (grid0.coords t) d (win0_1.cut (grid0.coords t) ((dats m 0 c).after 1 t))))
    ∗ owns (c : Thread nD τ) (ms0_2 t) fullShare ((dats m 0 c).after 2 t)
    ∗ owns (c : Thread nD τ) (ms0_3 t) fullShare ((dats m 0 c).after 3 t))

/-- The body at any point. -/
theorem sound_body (h0 : ∀ i, arg0 m c i = (EReal.toReal (arg0 m c i) : EReal)) (h1 : ∀ i, (arg1 m c i).toNat < 243) (t : Fin cfg0.N) :
    bodyPre m c t ⊢ wp frame (wpE (defs₀ (F := Ideal)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3, cut_blk1]
  iintro ⟨HΦ, Ho, ⟨%d0, H0⟩, ⟨%d1, H1⟩, ⟨%d2, H2⟩, ⟨%d3, H3⟩⟩
  rw [← outs_eq m c h0 h1 t d1]
  unfold out0_A_3
  iapply ((kernelRun0_A c (grid0.coords t) _ _ _ _ _ _ _ _ (iblk m c 0 t) (blk1 m c t d1) (iblk m c 2 t)).2 Set.univ _)
  isplitl [H0]; · iexact H0
  isplitl [H1]; · iexact H1
  isplitl [H2]; · iexact H2
  isplitl [H3]; · iexists _; iexact H3
  iintro ⟨H0, H1, H2, ⟨%e3, H3⟩⟩
  isplitl [HΦ]; · iexact HΦ
  isplitl [Ho]; · iexact Ho
  isplitl [H0]; · iexact H0
  isplitl [H1]; · iexists d1; iexact H1
  isplitl [H2]; · iexact H2
  unfold owns; iexists _; isplitr
  swap; · iexact H3
  ipureintro; exact View.read_writes_of_cover _ _ _ _ _ (cover0_A_3 c _ _ _ _ _ _ _ _ _ _ _ _)

/-- The same at the library's spelling. -/
theorem body_obligation (h0 : ∀ i, arg0 m c i = (EReal.toReal (arg0 m c i) : EReal)) (h1 : ∀ i, (arg1 m c i).toNat < 243) :
    BodyObligationLoose (dats m 0 c) (defs₀ (F := Ideal)) Variants.none () Set.univ := fun t => by
  rw [bigSep_W0, bigSep_W0, defs₀_row]
  exact triple_restated (sound_body m c h0 h1 t) rfl .rfl fun _ => .rfl

set_option backward.isDefEq.respectTransparency.types false in
set_option maxHeartbeats 800000 in
/-- The run: every window's array ends at what the proof data compute, every other buffer as the host's last line leaves it. -/
theorem run_main (ρ : Dev nD → PrngReg) (h0 : ∀ c, ∀ i, arg0 m c i = (EReal.toReal (arg0 m c i) : EReal)) (h1 : ∀ c, ∀ i, (arg1 m c i).toNat < 243) :
    θ_run defs (onTc (τ := τ) (main (F := Ideal))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation m c (h0 c) (h1 c)) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The 13 blocks of 1024 columns fill the result array. -/
theorem cover (i : S48x13312.Idx) : ∃ t : Fin cfg0.N, (cfg0.win 3).flush t = true ∧ i ∈ ((cfg0.win 3).blk t).view.set := by
  obtain ⟨r, n, rfl⟩ : ∃ (r : Fin 48) (n : Fin 13312), i = ix2 r n := ⟨_, _, eq_ix2 i⟩
  obtain ⟨t, ht⟩ : ∃ t : Fin cfg0.N, t.val = n.val / 1024 :=
    ⟨⟨n.val / 1024, by have hN : cfg0.N = 13 := N_0; omega⟩, rfl⟩
  refine ⟨t, flush0_3 _, ?_⟩
  have h := ((cfg0.win 3).blk t).view.emb_mem_set (ix2 r (⟨n.val % 1024, by omega⟩ : Fin 1024))
  have e : ((cfg0.win 3).blk t).view.emb (ix2 r (⟨n.val % 1024, by omega⟩ : Fin 1024)) = (ix2 r n : S48x13312.Idx) := by
    funext a; apply Fin.ext
    obtain ⟨e0, e1⟩ := index3 t
    match a with
    | ⟨0, _⟩ => show win0_3.index t (0 : Fin 2) * 48 + 1 * r.val = r.val; omega
    | ⟨1, _⟩ => show win0_3.index t (1 : Fin 2) * 1024 + 1 * (n.val % 1024) = n.val; omega
  rwa [e] at h

/-- The result array. -/
theorem final : (dats m 0 c).arrAt 3 cfg0.N = G (arg0 m c) (arg1 m c) (arg2 m c ix0) :=
  (dats m 0 c).arrAt_eq_of_cover 3 (G (arg0 m c) (arg1 m c) (arg2 m c ix0))
    (fun t _ => by
      show win0_3.cut (grid0.coords t) ((dats m 0 c).after 3 t) = _
      rw [after_3]
      rfl)
    cover

end Cert.KernelIdeal.Value
-- ==== Proof.Reference.lean ====
/-
  THE REFERENCE'S RESULT AT AN INDEX, over the extended reals: with real activations it is the same sum, over the packed rows
  and the five digits, of activation times digit, times the scale. Its own array of digits is exact for any byte.
-/
module

public import proofs.«01_k».proof.Proof.Final
public import proofs.«01_k».proof.Proof.Gen.ReferenceIdeal
public import proofs.«01_k».proof.Proof.Gen.ReferenceIdeal.Run
public import Idealize.ShloMosaic.Lib.TwoAxisContraction

@[expose] public section

noncomputable section

open scoped BigOperators

namespace Cert.ReferenceIdeal.RefValue

open Idealize.ShloMosaic Idealize.ShloMosaic.TcCoe Idealize.ShloMosaic.ValueIdx
open Cert.ReferenceIdeal Cert.Digits
open Cert.ReferenceIdeal.Facts₀ Cert.ReferenceIdeal.Facts
open Cert.KernelIdeal.Value (xr rowR G coe_sum zero_bf16 xr_zero)

/-! ## The reference's terms -/

/-- The activations by digit and packed row, one zero column added. -/
def xj (a0 : FVec Ideal S48x1x16384 .bf16) : FVec Ideal S48x5x3277 .bf16 :=
  transpose S48x5x3277 [0, 2, 1] (shapeCast S48x3277x5 (pad S48x16385 ![0, 0] ![0, 1] ![0, 0] (shapeCast S48x16384 a0 shapeCasts_S48x1x16384_S48x16384)
    (sitofp .bf16 (constantI S_ 32 0#32)) pads_S48x16384_S48x16385_000_010 h_S_) shapeCasts_S48x16385_S48x3277x5) transposes_S48x3277x5_S48x5x3277_0_2_1
/-- The bytes divided by the powers of three, rounded down. -/
def quot (a1 : IVec S3277x13312 8) : FVec Ideal S5x3277x13312 .f32 :=
  Host.floor (mulf (broadcastInDim S5x3277x13312 ![0, 1, 2] bcast_S1x3277x13312_S5x3277x13312_0_1_2 (addf (broadcastInDim S1x3277x13312 ![1, 2] bcast_S3277x13312_S1x3277x13312_1_2 (sitofp .f32 (extui 32 a1 natLt_8_32))) (broadcastInDim S1x3277x13312 ![] bcast_S_S1x3277x13312 (constant S_ .f32 0x3F000000#32)))) (broadcastInDim S5x3277x13312 ![0, 1, 2] bcast_S5x1x1_S5x3277x13312_0_1_2 (broadcastInDim S5x1x1 ![0] bcast_S5_S5x1x1_0 ((fun i => FloatOps.ofBits .f32 (lit0 (S5.rowMajor i)))))))
/-- The digits, less one. -/
def trits (a1 : IVec S3277x13312 8) : FVec Ideal S5x3277x13312 .bf16 :=
  truncf .bf16 (subf (subf (quot a1) (mulf (broadcastInDim S5x3277x13312 ![] bcast_S_S5x3277x13312 (constant S_ .f32 0x40400000#32)) (Host.floor (mulf (addf (quot a1) (broadcastInDim S5x3277x13312 ![] bcast_S_S5x3277x13312 (constant S_ .f32 0x3F000000#32))) (broadcastInDim S5x3277x13312 ![] bcast_S_S5x3277x13312 (constant S_ .f32 0x3EAAAAAB#32)))))) (broadcastInDim S5x3277x13312 ![] bcast_S_S5x3277x13312 (constant S_ .f32 0x3F800000#32))) bitsLt_bf16_f32
/-- The result before its last reshape. -/
def out (a0 : FVec Ideal S48x1x16384 .bf16) (a1 : IVec S3277x13312 8) (a2 : FVec Ideal S_ .f32) : FVec Ideal S48x13312 .bf16 :=
  truncf .bf16 (mulf (Host.dotGeneral dot_S48x5x3277_S5x3277x13312_S48x13312_12_01_0_2_n_n none (xj a0) (trits a1)) (broadcastInDim S48x13312 ![] bcast_S_S48x13312 a2)) bitsLt_bf16_f32

/-! ## Each at an index -/

theorem xj_apply (a0 : FVec Ideal S48x1x16384 .bf16) (h0 : ∀ i, a0 i = (EReal.toReal (a0 i) : EReal)) (m : Fin 48) (j : Fin 5) (p : Fin 3277) :
    xj a0 (ix3 m j p) = (xr a0 m (p.val * 5 + j.val) : EReal) := by
  unfold xj
  rw [transpose_apply _ _ _ _ (ix3 m p j) (fun b => by
    match b with
    | ⟨0, _⟩ => rfl
    | ⟨1, _⟩ => rfl
    | ⟨2, _⟩ => rfl)]
  rw [shapeCast_apply _ _ _ (ix2 m (⟨p.val * 5 + j.val, by omega⟩ : Fin 16385)) (by
    rw [Shape.rowMajor_val_two, Shape.rowMajor_val_three]
    show m.val * 16385 + (p.val * 5 + j.val) = (m.val * 3277 + p.val) * 5 + j.val
    omega)]
  unfold xr
  by_cases h : p.val * 5 + j.val < 16384
  · rw [dif_pos h, ← h0, pad_apply_of_inside _ _ _ _ _ _ _ _ (ix2 m (⟨p.val * 5 + j.val, h⟩ : Fin 16384)) (fun a => by
      match a with
      | ⟨0, _⟩ => show m.val = 0 + m.val * (0 + 1); omega
      | ⟨1, _⟩ => show p.val * 5 + j.val = 0 + (p.val * 5 + j.val) * (0 + 1); omega)]
    refine shapeCast_apply _ _ _ _ ?_
    rw [Shape.rowMajor_val_three, Shape.rowMajor_val_two]
    show (m.val * 1 + 0) * 16384 + (p.val * 5 + j.val) = m.val * 16384 + (p.val * 5 + j.val)
    omega
  · rw [dif_neg h, pad_apply_of_not_inside _ _ _ _ _ _ _ _ (1 : Fin 2) (fun hc => h (by
      have h2 := hc.2.2
      have e : ((p.val * 5 + j.val) - 0) / (0 + 1) < 16384 := h2
      omega))]
    exact zero_bf16

theorem sitofp_byte (b : BitVec 8) : (FloatOps.sitofp (F := Ideal) .f32 (BitVec.setWidth 32 b) : EReal) = ((b.toNat : ℝ) : EReal) := by
  show (((BitVec.setWidth 32 b).toInt : ℝ) : EReal) = _
  have h : (BitVec.setWidth 32 b).toInt = (b.toNat : ℤ) := by
    rw [BitVec.toInt_eq_toNat_of_lt (by rw [BitVec.toNat_setWidth]; have := b.isLt; omega), BitVec.toNat_setWidth,
      Nat.mod_eq_of_lt (by have := b.isLt; omega)]
  rw [h, Int.cast_natCast]

theorem quot_apply (a1 : IVec S3277x13312 8) (j : Fin 5) (p : Fin 3277) (n : Fin 13312) :
    quot a1 (ix3 j p n) = ((((a1 (ix2 p n)).toNat / 3 ^ j.val : ℕ) : ℝ) : EReal) := by
  rw [← floor_q _ (a1 (ix2 p n)).isLt j, ← inv_eq, ← f32_half, ← sitofp_byte]
  unfold quot
  show Ideal.liftRound Int.floor (_ * _) = _
  congr 2
  · rw [broadcastInDim_apply _ _ _ _ (ix3 (0 : Fin 1) p n) (fun a => by
      match a with
      | ⟨0, _⟩ => rfl
      | ⟨1, _⟩ => rfl
      | ⟨2, _⟩ => rfl)]
    rw [addf_apply]
    congr 1
    exact broadcastInDim_apply _ _ _ _ (ix2 p n) (fun a => by
      match a with
      | ⟨0, _⟩ => rfl
      | ⟨1, _⟩ => rfl)
  · rw [broadcastInDim_apply _ _ _ _ (ix3 j (0 : Fin 1) (0 : Fin 1)) (fun a => by
      match a with
      | ⟨0, _⟩ => rfl
      | ⟨1, _⟩ => rfl
      | ⟨2, _⟩ => rfl)]
    rw [broadcastInDim_apply _ _ _ _ (ix1 j) (fun a => by
      match a with
      | ⟨0, _⟩ => rfl)]
    show Ideal.ofBits .f32 (lit0 (S5.rowMajor (ix1 j))) = _
    have e : S5.rowMajor (ix1 j) = j := Fin.ext (Shape.rowMajor_val_one _)
    rw [e]
    congr 1
    fin_cases j <;> rfl

theorem trits_apply (a1 : IVec S3277x13312 8) (j : Fin 5) (p : Fin 3277) (n : Fin 13312) :
    trits a1 (ix3 j p n) = ((digit (a1 (ix2 p n)).toNat j : ℝ) : EReal) := by
  rw [← ref_digit _ (a1 (ix2 p n)).isLt j, ← f32_three, ← f32_half, ← f32_one, ← f32_third, ← quot_apply]
  rfl

abbrev D := dot_S48x5x3277_S5x3277x13312_S48x13312_12_01_0_2_n_n

theorem lhs_0 (j : S48x13312.Idx) (k : D.contr.Idx) : (D.lhsIdx j k 0 : ℕ) = j 0 := by
  simp [DotDims.lhsIdx, D, dot_S48x5x3277_S5x3277x13312_S48x13312_12_01_0_2_n_n]; rfl
theorem lhs_1 (j : S48x13312.Idx) (k : D.contr.Idx) : (D.lhsIdx j k 1 : ℕ) = k ⟨0, by decide⟩ := by
  simp [DotDims.lhsIdx, D, dot_S48x5x3277_S5x3277x13312_S48x13312_12_01_0_2_n_n]; rfl
theorem lhs_2 (j : S48x13312.Idx) (k : D.contr.Idx) : (D.lhsIdx j k 2 : ℕ) = k ⟨1, by decide⟩ := by
  simp [DotDims.lhsIdx, D, dot_S48x5x3277_S5x3277x13312_S48x13312_12_01_0_2_n_n]; rfl
theorem rhs_0 (j : S48x13312.Idx) (k : D.contr.Idx) : (D.rhsIdx j k 0 : ℕ) = k ⟨0, by decide⟩ := by
  simp [DotDims.rhsIdx, D, dot_S48x5x3277_S5x3277x13312_S48x13312_12_01_0_2_n_n]; rfl
theorem rhs_1 (j : S48x13312.Idx) (k : D.contr.Idx) : (D.rhsIdx j k 1 : ℕ) = k ⟨1, by decide⟩ := by
  simp [DotDims.rhsIdx, D, dot_S48x5x3277_S5x3277x13312_S48x13312_12_01_0_2_n_n]; rfl
theorem rhs_2 (j : S48x13312.Idx) (k : D.contr.Idx) : (D.rhsIdx j k 2 : ℕ) = j 1 := by
  simp [DotDims.rhsIdx, D, dot_S48x5x3277_S5x3277x13312_S48x13312_12_01_0_2_n_n]; rfl

/-- The product with its two contracted axes as a double sum. -/
theorem dot_apply (x : FVec Ideal S48x5x3277 .bf16) (w : FVec Ideal S5x3277x13312 .bf16) (m : Fin 48) (n : Fin 13312) :
    (Host.dotGeneral D none x w : FVec Ideal S48x13312 .f32) (ix2 m n) = ∑ j : Fin 5, ∑ p : Fin 3277, x (ix3 m j p) * w (ix3 j p n) := by
  simp only [Host.dotGeneral]
  rw [Ideal.dotGeneral_apply, sum_contr2 D 5 3277 (by decide) (by decide) (by decide)]
  refine Finset.sum_congr rfl fun j _ => Finset.sum_congr rfl fun p _ => ?_
  congr 1
  · refine congrArg x (funext fun a => Fin.ext ?_)
    match a with
    | ⟨0, _⟩ => exact lhs_0 _ _
    | ⟨1, _⟩ => exact (lhs_1 _ _).trans (contrEquiv2_symm_val0 D 5 3277 _ _ _ (j, p))
    | ⟨2, _⟩ => exact (lhs_2 _ _).trans (contrEquiv2_symm_val1 D 5 3277 _ _ _ (j, p))
  · refine congrArg w (funext fun a => Fin.ext ?_)
    match a with
    | ⟨0, _⟩ => exact (rhs_0 _ _).trans (contrEquiv2_symm_val0 D 5 3277 _ _ _ (j, p))
    | ⟨1, _⟩ => exact (rhs_1 _ _).trans (contrEquiv2_symm_val1 D 5 3277 _ _ _ (j, p))
    | ⟨2, _⟩ => exact rhs_2 _ _

/-- The reference's array is the product with the digits, times the scale. -/
theorem out_eq (a0 : FVec Ideal S48x1x16384 .bf16) (a1 : IVec S3277x13312 8) (a2 : FVec Ideal S_ .f32)
    (h0 : ∀ i, a0 i = (EReal.toReal (a0 i) : EReal)) : out a0 a1 a2 = G a0 a1 (a2 ix0) := by
  funext i
  obtain ⟨m, n, rfl⟩ : ∃ (m : Fin 48) (n : Fin 13312), i = ix2 m n := ⟨_, _, eq_ix2 i⟩
  unfold out G
  rw [truncf_apply, mulf_apply, dot_apply]
  congr 1
  · rw [coe_sum, Finset.sum_comm]
    refine Finset.sum_congr rfl fun p _ => ?_
    unfold rowR
    rw [coe_sum]
    refine Finset.sum_congr rfl fun j _ => ?_
    rw [xj_apply a0 h0, trits_apply, EReal.coe_mul]
  · exact broadcastInDim_apply _ _ _ _ ix0 (fun a => a.elim0)

end Cert.ReferenceIdeal.RefValue
-- ==== Proof.Run.lean ====
/-
  THE TWO RUNS: the kernel's program ends with the array `G` under a reshape, and so does the reference's.
-/
module

public import proofs.«01_k».proof.Proof.Reference
public import Idealize.ShloMosaic.Lib.Claim

@[expose] public section

noncomputable section

namespace Cert.Runs

open Idealize.ShloMosaic Idealize.ShloMosaic.TcCoe Idealize.ShloMosaic.Tactic Idealize.ShloMosaic.StableHlo Idealize.ShloMosaic.ValueIdx Idealize.SL.Sem
open Cert.KernelIdeal.Value (G arg0 arg1 arg2 final dats A_eq run_main)

section Kernel

open Cert.KernelIdeal Cert.KernelIdeal.Gen

/-- The kernel's result, from the array its grid fills. -/
def result (m : (ℓ : Loc nD τ sig) → Buf (Elt Ideal) ℓ) (c : Dev nD) : FVec Ideal S48x1x13312 .bf16 :=
  shapeCast S48x1x13312 (G (arg0 m c) (arg1 m c) (arg2 m c ix0)) shapeCasts_S48x13312_S48x1x13312

variable (m : (ℓ : Loc nD τ sig) → Buf (Elt Ideal) ℓ) (ρ : Dev nD → PrngReg)

theorem tail_eq (c : Dev nD) :
    Pipeline.afterTail₀ cfgs (dats m) 0 (V0 m) [hostOps1] c main_v23 = shapeCast S48x1x13312 ((dats m 0 c).arrAt 3 cfg0.N) shapeCasts_S48x13312_S48x1x13312 := by
  show after (List.flatten [hostOps1]) _ (Proc.devRef .tc main_v23) = _
  simp only [List.flatten_cons, List.flatten_nil, List.append_nil]
  after_results_simp
  rw [show Pipeline.withArrays spec0 c (V0 m c) (fun w => (dats m 0 c).arrAt w cfg0.N) (Proc.devRef .tc main_v22) = (dats m 0 c).arrAt 3 cfg0.N from
    Pipeline.withArrays_arr spec0 (by decide) c (V0 m c) (fun w => (dats m 0 c).arrAt w cfg0.N) 3]
  rfl

theorem kernel (h0 : ∀ c, ∀ i, arg0 m c i = (EReal.toReal (arg0 m c i) : EReal)) (h1 : ∀ c, ∀ i, (arg1 m c i).toNat < 243) :
    θ_run defs (onTc (τ := τ) (main (F := Ideal))) ⟨m, fun _ => 0, ρ⟩ (fun r => ∀ c : Dev nD,
      r.2.mem ((c.tc : Thread nD τ).loc main_v23) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ⟨?_, h.2 c⟩) (θ_run_and (run_main m ρ h0 h1) (frame_of m ρ (dats m) (A_eq m) (run_main m ρ h0 h1)))
  refine ((h.1 c).2 main_v23 (Pipeline.mem_restRefs_of main_v23 (by decide) (by decide))).trans ((tail_eq m c).trans ?_)
  rw [final m c]
  rfl

end Kernel

section Reference

open Cert.ReferenceIdeal

variable (m : (ℓ : Loc nD τ sig) → Buf (Elt Ideal) ℓ) (ρ : Dev nD → PrngReg)

theorem reference (a0 : Dev nD → FVec Ideal S48x1x16384 .bf16) (a1 : Dev nD → IVec S3277x13312 8) (a2 : Dev nD → FVec Ideal S_ .f32)
    (e : ∀ c : Dev nD, m ((c.tc : Thread nD τ).loc main_arg0) = a0 c ∧ m ((c.tc : Thread nD τ).loc main_arg1) = a1 c ∧ m ((c.tc : Thread nD τ).loc main_arg2) = a2 c)
    (h0 : ∀ c, ∀ i, a0 c i = (EReal.toReal (a0 c i) : EReal)) :
    θ_run defs (onTc (τ := τ) (main (F := Ideal))) ⟨m, fun _ => 0, ρ⟩ (fun r => ∀ c : Dev nD,
      r.2.mem ((c.tc : Thread nD τ).loc main_v29) = shapeCast S48x1x13312 (G (a0 c) (a1 c) (a2 c ix0)) Gen.shapeCasts_S48x13312_S48x1x13312
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ⟨(h c).1.trans ?_, (h c).2⟩) (Cert.ReferenceIdeal.Value.run m ρ)
  obtain ⟨e0, e1, e2⟩ := e c
  rw [← RefValue.out_eq (a0 c) (a1 c) (a2 c) (h0 c), ← e0, ← e1, ← e2]
  rfl

end Reference

end Cert.Runs
-- ==== Proof.KernelBody.lean ====
/-
  THE KERNEL'S BODY, RUN: on any staging buffers, whatever the three operands' hold, the body runs to its end, leaves the
  operands' buffers as they were, and writes the whole of the result's; what it writes there is found by the run.
-/
module

public import proofs.«01_k».proof.Proof.Gen.Kernel.Frame
public import proofs.«01_k».proof.Proof.Gen.Kernel.Skeleton
public import Idealize.ShloMosaic.Lib.Claim

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [FloatOps F]

local notation "𝕄" => MT nD τ sig Unit (Elt F) ℕ (UR sig nD τ) ℕ

/-! ## The staging buffers -/

/-- One staging buffer of the result, through which its contents are stated. -/
abbrev VO0_3 : View sig .tc .vmem S48x1024 .bf16 := (Memref.whole cc0_stg3_0 : Memref sig .tc .vmem S48x1024 .bf16).view

/-- Each window's current staging memref at point `t`, spelled as the pipeline passes it (`bodyAt0`), and its wholeness. -/
abbrev ms0_0 (t : Fin cfg0.N) : Memref sig .tc .vmem S13x5x96x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S3328x1024 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .smem S1x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S48x1024 .bf16 := win0_3.stage (cfg0.slots t 3)
abbrev hs0_3 (t : Fin cfg0.N) : (ms0_3 t).IsWhole := hstage0_3 ((cfg0.slots t 3).cast nbuf0_3)

/-! ## The run -/

set_option maxHeartbeats 1000000 in
/-- The pieces the body's stores leave in the result's staging buffer, with the proof that the body runs from the operands'
    buffers at their contents and the result's at anything to the operands' as they were and the result's with these pieces
    written. -/
noncomputable def kernelRun0_A (c : Dev nD) (i : grid0.Coords) (arg1 : Memref sig .tc .vmem S13x5x96x256 .bf16) (harg1 : arg1.IsWhole) (arg2 : Memref sig .tc .vmem S3328x1024 .i8) (harg2 : arg2.IsWhole) (arg3 : Memref sig .tc .smem S1x1 .f32) (harg3 : arg3.IsWhole) (arg4 : Memref sig .tc .vmem S48x1024 .bf16) (harg4 : arg4.IsWhole)
    (x0 : Vec F S13x5x96x256 .bf16) (x1 : Vec F S3328x1024 .i8) (x2 : Vec F S1x1 .f32) :
    { L3 : List (View.Piece (Elt F) S48x1024 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3)) -∗ K ⟨⟩))
          ⊢ wp frame (wpE (defs₀ (F := F)) Variants.none c none) E (cc0_ternary_linear i arg1 harg1 arg2 harg2 arg3 harg3 arg4 harg4) K } := by
  refine ⟨?_, fun E K => ?run⟩
  case run =>
    simp only [cc0_ternary_linear_eq_skeleton]; unfold cc0_ternary_linear_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
    unfold owns
    iintro ⟨⟨%f0, %hf0, H0⟩, ⟨%f1, %hf1, H1⟩, ⟨%f2, %hf2, H2⟩, ⟨%d3, %f3, -, H3⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

/-- The pieces cover the result's block: one store of the whole. -/
theorem cover0_A_3 (c : Dev nD) (i : grid0.Coords) (arg1 : Memref sig .tc .vmem S13x5x96x256 .bf16) (harg1 : arg1.IsWhole) (arg2 : Memref sig .tc .vmem S3328x1024 .i8) (harg2 : arg2.IsWhole) (arg3 : Memref sig .tc .smem S1x1 .f32) (harg3 : arg3.IsWhole) (arg4 : Memref sig .tc .vmem S48x1024 .bf16) (harg4 : arg4.IsWhole)
    (x0 : Vec F S13x5x96x256 .bf16) (x1 : Vec F S3328x1024 .i8) (x2 : Vec F S1x1 .f32) (y : S48x1024.Idx) :
    ∃ pc ∈ (kernelRun0_A c i arg1 harg1 arg2 harg2 arg3 harg3 arg4 harg4 x0 x1 x2).1, y ∈ pc.1.set :=
  View.cover_of_tiledL (kernelRun0_A c i arg1 harg1 arg2 harg2 arg3 harg3 arg4 harg4 x0 x1 x2).1 S48x1024.size (by sl_kernel_rfl) y

/-- What the body leaves in the result's staging buffer, of the three operands' contents. -/
def out0_A_3 (c : Dev nD) (i : grid0.Coords) (arg1 : Memref sig .tc .vmem S13x5x96x256 .bf16) (harg1 : arg1.IsWhole) (arg2 : Memref sig .tc .vmem S3328x1024 .i8) (harg2 : arg2.IsWhole) (arg3 : Memref sig .tc .smem S1x1 .f32) (harg3 : arg3.IsWhole) (arg4 : Memref sig .tc .vmem S48x1024 .bf16) (harg4 : arg4.IsWhole)
    (x0 : Vec F S13x5x96x256 .bf16) (x1 : Vec F S3328x1024 .i8) (x2 : Vec F S1x1 .f32) : Vec F S48x1024 .bf16 :=
  VO0_3.read (Elt F) (VO0_3.writes (Elt F) VO0_3.junk (kernelRun0_A c i arg1 harg1 arg2 harg2 arg3 harg3 arg4 harg4 x0 x1 x2).1)

end Cert.Kernel.Body

end
-- ==== Proof.KernelFrame.lean ====
/-
  THE FRAME: the program runs to its end, its arguments end unchanged, every counter ends at zero. Of the packed bytes' window
  only the rows inside the array are stated (its block overhangs the array by 48 rows); the result's window is not stated at all.
-/
module

public import proofs.«01_k».proof.Proof.KernelBody
public import Idealize.ShloMosaic.Lib.Claim

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A word for the rows of a block outside the array; nothing reads it. -/
def filler (t : Fin cfg0.N) : win0_1.block.Idx → Elt F .i8 := Pipeline.Dat.unnamed (cfg := cfg0) 1 t

/-- The packed bytes' block at point `t`, its rows inside the array, with `d` on the others. -/
abbrev blk1 (c : Dev nD) (t : Fin cfg0.N) (d : win0_1.block.Idx → Elt F .i8) : win0_1.block.Idx → Elt F .i8 :=
  win0_1.fill (grid0.coords t) d (iblk m c 1 t)

/-- The result's window is the one not stated. -/
def fgt : Fin 4 → Bool := fun | 0 => false | 1 => false | 2 => false | 3 => true

/-- The proof data: the arrays as the host leaves them; after a point the operands' buffers at their blocks. -/
def fdats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => blk1 m c t (filler t)
    | ⟨2, _⟩ => iblk m c 2 t
    | ⟨3, _⟩ => Pipeline.Dat.unnamed (cfg := cfg0) 3 t
  Φ _ := Pipeline.ΦA spec0 c
  q _ := fullShare
  owed _ := 0

theorem fA_eq (c : Dev nD) (w : Fin cfg0.W) : (fdats m 0 c).A w = V m c (Pipeline.arrRef spec0 w) := by
  dsimp only [fdats]

theorem fafter_0 (c : Dev nD) (t : Fin cfg0.N) : (fdats m 0 c).after 0 t = iblk m c 0 t := by dsimp only [fdats]
theorem fafter_1 (c : Dev nD) (t : Fin cfg0.N) : (fdats m 0 c).after 1 t = blk1 m c t (filler t) := by dsimp only [fdats]
theorem fafter_2 (c : Dev nD) (t : Fin cfg0.N) : (fdats m 0 c).after 2 t = iblk m c 2 t := by dsimp only [fdats]

/-- What the body finds in the operands' buffers. -/
theorem fbefore_0 (c : Dev nD) (t : Fin cfg0.N) (d) : (fdats m 0 c).before 0 t d = iblk m c 0 t :=
  before0_0_of m (fdats m 0 c) (fA_eq m c 0) (fafter_0 m c) t d
theorem fbefore_1 (c : Dev nD) (t : Fin cfg0.N) (d) : (fdats m 0 c).before 1 t d = blk1 m c t d := by
  unfold Dat.before; rw [if_pos (fetch0_1 t)]; rfl
theorem fbefore_2 (c : Dev nD) (t : Fin cfg0.N) (d) : (fdats m 0 c).before 2 t d = iblk m c 2 t :=
  before0_2_of m (fdats m 0 c) (fA_eq m c 2) (fafter_2 m c) t d

/-- The rows inside the array, out of a filled block. -/
theorem cut_blk1 (c : Dev nD) (t : Fin cfg0.N) (d : win0_1.block.Idx → Elt F .i8) :
    win0_1.cut (grid0.coords t) (blk1 m c t d) = iblk m c 1 t := win0_1.cut_fill _ _ _

/-- The table's entry for the body is the body. -/
theorem defs₀_row (t : Fin cfg0.N) : defs₀ (F := F) .tc cfg0.body (cfg0.bodyArgs t (cfg0.slots t)) = bodyAt0 t := by
  unfold defs₀; rw [Defs.onTc_tc]

/-- What the body is called with at point `t`, -/
def fbodyPre (c : Dev nD) (t : Fin cfg0.N) : sProp 𝕄 :=
  iprop((fdats m 0 c).Φ t.castSucc ∗ (fdats m 0 c).owesAt () t.castSucc
    ∗ (∃ d, owns (c : Thread nD τ) (ms0_0 t) fullShare ((fdats m 0 c).before 0 t d))
    ∗ (∃ d, owns (c : Thread nD τ) (ms0_1 t) fullShare ((fdats m 0 c).before 1 t d))
    ∗ (∃ d, owns (c : Thread nD τ) (ms0_2 t) fullShare ((fdats m 0 c).before 2 t d))
    ∗ (∃ d, owns (c : Thread nD τ) (ms0_3 t) fullShare d))

/-- and what it returns. -/
def fbodyPost (c : Dev nD) (t : Fin cfg0.N) : sProp 𝕄 :=
  iprop((fdats m 0 c).Φ t.succ ∗ (fdats m 0 c).owesAt () t.succ
    ∗ owns (c : Thread nD τ) (ms0_0 t) fullShare ((fdats m 0 c).after 0 t)
    ∗ (∃ d, owns (c : Thread nD τ) (ms0_1 t) fullShare (win0_1.fill (grid0.coords t) d (win0_1.cut (grid0.coords t) ((fdats m 0 c).after 1 t))))
    ∗ owns (c : Thread nD τ) (ms0_2 t) fullShare ((fdats m 0 c).after 2 t)
    ∗ (∃ d, owns (c : Thread nD τ) (ms0_3 t) fullShare d))

/-- The body at any point. -/
theorem fsound_body (c : Dev nD) (t : Fin cfg0.N) :
    fbodyPre m c t ⊢ wp frame (wpE (defs₀ (F := F)) Variants.none c none) Set.univ (bodyAt0 t) (fun _ => fbodyPost m c t) := by
  unfold fbodyPre fbodyPost bodyAt0
  simp only [fbefore_0, fbefore_1, fbefore_2]
  rw [show (fdats m 0 c).Φ t.succ = (fdats m 0 c).Φ t.castSucc from rfl,
    show (fdats m 0 c).owesAt () t.succ = (fdats m 0 c).owesAt () t.castSucc from rfl,
    fafter_0, fafter_1, fafter_2, cut_blk1]
  iintro ⟨HΦ, Ho, ⟨%d0, H0⟩, ⟨%d1, H1⟩, ⟨%d2, H2⟩, ⟨%d3, H3⟩⟩
  iapply ((kernelRun0_A c (grid0.coords t) _ _ _ _ _ _ _ _ (iblk m c 0 t) (blk1 m c t d1) (iblk m c 2 t)).2 Set.univ _)
  isplitl [H0]; · iexact H0
  isplitl [H1]; · iexact H1
  isplitl [H2]; · iexact H2
  isplitl [H3]; · iexists _; iexact H3
  iintro ⟨H0, H1, H2, ⟨%e3, H3⟩⟩
  isplitl [HΦ]; · iexact HΦ
  isplitl [Ho]; · iexact Ho
  isplitl [H0]; · iexact H0
  isplitl [H1]; · iexists d1; iexact H1
  isplitl [H2]; · iexact H2
  iexists _; unfold owns; iexists _; isplitr
  swap; · iexact H3
  ipureintro; rfl

/-- The same at the library's spelling. -/
theorem fbody_obligation (c : Dev nD) : BodyObligationLoose (fdats m 0 c) (defs₀ (F := F)) Variants.none () Set.univ fgt := fun t => by
  rw [bigSep_W0, bigSep_W0, defs₀_row]
  exact triple_restated (fsound_body m c t) rfl .rfl fun _ => .rfl

set_option backward.isDefEq.respectTransparency.types false in
set_option maxHeartbeats 800000 in
/-- The run: every buffer that is neither a window's array nor the program's last result ends as the host left it before
    the region, and every counter ends at zero. -/
theorem frun : θ_run defs (onTc (τ := τ) (main (F := F))) (s₀ m ρ)
    (fun r => Pipeline.RDat.FramePostR (cfgs 0) (fun c => (fdats m 0 c).toRForget fgt) {main_v23} (V m) r ∧ r.2.sem = fun _ => 0) :=
  Pipeline.θ_run_frame_around_T_forget (Q' := _) cfgs (fdats m) (0 : Fin 1) launch0 defs₀ Variants.none fgt {main_v23} m ρ main
    (hbody := fbody_obligation m) (hshare := fun c => (fdats m 0 c).share_full fun _ => rfl)
    (howed := fun _ _ => rfl) (V₀ := V0 m) (opss := [hostOps1]) (hsub := sfx_sub) (hfresh := sfx_fresh) (hkeep := sfx_keeps)
    (hT := by
      intro ops h op h' b hb
      simp only [List.mem_singleton] at h; subst h
      simp only [hostOps1, List.mem_singleton] at h'; subst h'
      exact Finset.mem_singleton.mpr (Proc.devRef_injective _ (Finset.mem_singleton.mp hb)))
    (hmain := hmain m Variants.none) (hA := fA_eq m) (hΦ := fun _ _ => rfl)

/-- The frame claim's statement, at any reading of the floats. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c =>
    ⟨((h.1 c).2 main_arg0 (by decide)).trans (V_main_arg0 m c), ((h.1 c).2 main_arg1 (by decide)).trans (V_main_arg1 m c),
      ((h.1 c).2 main_arg2 (by decide)).trans (V_main_arg2 m c)⟩, h.2⟩) (frun m ρ)

end Cert.Kernel.Body

end
-- ==== Proof.lean ====
/-
  THE CERTIFICATE: the kernel's program and its reading over the extended reals run and end with their arguments unchanged
  and every counter at zero; so does the reference; and over the extended reals, with bytes below 243 and finite
  activations, the kernel's whole result is the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_valid
public import proofs.«01_k».proof.Proof.Pre
public import proofs.«01_k».proof.Proof.Run
public import proofs.«01_k».proof.Proof.KernelFrame
public import Idealize.ShloMosaic.Adequacy
public import Idealize.ShloMosaic.Init

@[expose] public section

noncomputable section

namespace Cert.Proof

open Idealize.ShloMosaic Idealize.ShloMosaic.ValueIdx Idealize.SL.Sem

/-- The reference runs, its arguments end unchanged, and every counter ends at zero: the program has no semaphore. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run Cert.ReferenceIdeal.defs _ _).mono
    (fun r h => ⟨fun c => (h c).2, Idealize.ShloMosaic.sem_eq_zero_of_no_sems (by decide) r.2⟩) (Cert.ReferenceIdeal.Value.run m g)

/-- The two results are equal, over the extended reals. -/
theorem equal : Cert.algebraic_KernelIdeal_ReferenceIdeal_pre_valid := by
  intro m g m' g' hpre heq
  have hp := fun c => Cert.PreValue.split _ _ _ (hpre c)
  exact ⟨Cert.Runs.result m, Cert.Runs.kernel m g (fun c => (hp c).1) (fun c => (hp c).2),
    Cert.Runs.reference m' g' _ _ _ heq (fun c => (hp c).1)⟩

theorem claim : Cert.Claim := ⟨Cert.Kernel.Gen.facts, Cert.KernelIdeal.Gen.facts, Cert.ReferenceIdeal.Gen.facts, Cert.Pre_valid.Gen.facts,
  fun m g _ => Cert.Kernel.Body.frame m g, fun m g _ => Cert.KernelIdeal.Body.frame m g, fun m g _ => Cert.KernelIdeal.Body.frame m g,
  fun m g _ => reference_frame m g, fun m g _ => reference_frame m g, trivial, equal⟩

end Cert.Proof

end
